-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bags_nonempty_weights_finite [hPre_bags_nonempty_weights_finite : Cert.Pre_bags_nonempty_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bags_nonempty_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bags_nonempty_weights_finite [hPre_bags_nonempty_weights_finite : Cert.Pre_bags_nonempty_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bags_nonempty_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_bags_nonempty_weights_finite [hKernelIdeal : Cert.KernelIdeal.Facts] [hPre_bags_nonempty_weights_finite : Cert.Pre_bags_nonempty_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bags_nonempty_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_bags_nonempty_weights_finite [hReferenceIdeal : Cert.ReferenceIdeal.Facts] [hPre_bags_nonempty_weights_finite : Cert.Pre_bags_nonempty_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bags_nonempty_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_bags_nonempty_weights_finite [hKernelIdeal : Cert.KernelIdeal.Facts] [hReferenceIdeal : Cert.ReferenceIdeal.Facts] [hPre_bags_nonempty_weights_finite : Cert.Pre_bags_nonempty_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bags_nonempty_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_bags_nonempty_weights_finite : Cert.Pre_bags_nonempty_weights_finite.Facts),
    quiescent_Kernel (hKernel := hKernel)
    ∧ quiescent_KernelIdeal (hKernelIdeal := hKernelIdeal)
    ∧ quiescent_KernelIdeal_pre_bags_nonempty_weights_finite (hKernelIdeal := hKernelIdeal) (hPre_bags_nonempty_weights_finite := hPre_bags_nonempty_weights_finite)
    ∧ quiescent_ReferenceIdeal (hReferenceIdeal := hReferenceIdeal)
    ∧ quiescent_ReferenceIdeal_pre_bags_nonempty_weights_finite (hReferenceIdeal := hReferenceIdeal) (hPre_bags_nonempty_weights_finite := hPre_bags_nonempty_weights_finite)
    ∧ preserves_Kernel_KernelIdeal
    ∧ algebraic_KernelIdeal_ReferenceIdeal_pre_bags_nonempty_weights_finite (hKernelIdeal := hKernelIdeal) (hReferenceIdeal := hReferenceIdeal) (hPre_bags_nonempty_weights_finite := hPre_bags_nonempty_weights_finite)
-- ==== Pre_bags_nonempty_weights_finite.lean ====
abbrev S32768x1024 : Shape := ⟨2, ![32768, 1024]⟩
abbrev S17 : Shape := ⟨1, ![17]⟩
abbrev S1024x256 : Shape := ⟨2, ![1024, 256]⟩
abbrev S256x1 : Shape := ⟨2, ![256, 1]⟩
abbrev S1024x4 : Shape := ⟨2, ![1024, 4]⟩
abbrev S4 : Shape := ⟨1, ![4]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S16_0 : S17.Slices ![0] S16
  slices_S17_S16_1 : S17.Slices ![1] S16
  bcast_S_S16 : S_.BroadcastsInDim S16 (![] : Fin 0 → Fin S16.rank)
  reducesTo_S16_S_d0 : S16.ReducesTo [0] S_
  h_S_ : 0 < S_.numel
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S32768x1024 .f32) (main_arg1 : IVec S17 32) (main_arg2 : FVec F S1024x256 .f32) (main_arg3 : FVec F S1024x256 .f32) (main_arg4 : FVec F S256x1 .f32) (main_arg5 : FVec F S1024x4 .f32) (main_arg6 : FVec F S4 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S16 32 := (extractStridedSlice S16 ![0] · slices_S17_S16_0) main_arg1
  let main_v4 : IVec S16 32 := (extractStridedSlice S16 ![1] · slices_S17_S16_1) main_arg1
  let main_c_0 : IVec S_ 32 := constantI S_ 32 32768#32
  let main_v5 : IVec S16 32 := broadcastInDim S16 ![] bcast_S_S16 main_c_0
  let main_v6 : IVec S16 32 := minsi main_v4 main_v5
  let main_v7 : IVec S16 1 := cmpi .slt main_v3 main_v6
  let main_c_1 : IVec S_ 1 := constantI S_ 1 1#1
  let main_v8 : IVec S_ 1 := (fun x v => Host.reduce IntOp.andi x v reducesTo_S16_S_d0 h_S_) main_v7 main_c_1
  let main_v9 : FVec F S256x1 .f32 := Host.absf main_arg4
  let main_cst : FVec F S_ .f32 := constant S_ .f32 0x7F800000#32
  let main_v10 : FVec F S256x1 .f32 := broadcastInDim S256x1 ![] bcast_S_S256x1 main_cst
  let main_v11 : IVec S256x1 1 := cmpf .olt main_v9 main_v10
  let main_c_2 : IVec S_ 1 := constantI S_ 1 1#1
  let main_v12 : IVec S_ 1 := (fun x v => Host.reduce IntOp.andi x v reducesTo_S256x1_S_d0_1 h_S_) main_v11 main_c_2
  let main_v13 : IVec S_ 1 := andi main_v2 main_v8
  let main_v14 : IVec S_ 1 := andi main_v13 main_v12
  main_v14
-- ==== Kernel.lean ====
abbrev S32768x1024 : Shape := ⟨2, ![32768, 1024]⟩
abbrev S17 : Shape := ⟨1, ![17]⟩
abbrev S1024x256 : Shape := ⟨2, ![1024, 256]⟩
abbrev S256x1 : Shape := ⟨2, ![256, 1]⟩
abbrev S1024x4 : Shape := ⟨2, ![1024, 4]⟩
abbrev S4 : Shape := ⟨1, ![4]⟩
abbrev S1024x512 : Shape := ⟨2, ![1024, 512]⟩
abbrev S_ : Shape := ⟨0, ![]⟩
abbrev S16 : Shape := ⟨1, ![16]⟩
abbrev S1x16 : Shape := ⟨2, ![1, 16]⟩
abbrev S1x4 : Shape := ⟨2, ![1, 4]⟩
abbrev S16x4 : Shape := ⟨2, ![16, 4]⟩
abbrev S4096x1024 : Shape := ⟨2, ![4096, 1024]⟩
abbrev S16x1024 : Shape := ⟨2, ![16, 1024]⟩
abbrev S16x1 : Shape := ⟨2, ![16, 1]⟩
abbrev S1024x1024 : Shape := ⟨2, ![1024, 1024]⟩
abbrev S1024x1 : Shape := ⟨2, ![1024, 1]⟩
abbrev S1024x16 : Shape := ⟨2, ![1024, 16]⟩

abbrev nBuf : Space → Nat
  | .hbm => 22
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S1024x256, .f32⟩
  | .hbm, ⟨3, _⟩ => ⟨S1024x256, .f32⟩
  | .hbm, ⟨4, _⟩ => ⟨S256x1, .f32⟩
  | .hbm, ⟨5, _⟩ => ⟨S1024x4, .f32⟩
  | .hbm, ⟨6, _⟩ => ⟨S4, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x512, .fp8e4m3⟩
  | .hbm, ⟨12, _⟩ => ⟨S16, .i32⟩
  | .hbm, ⟨13, _⟩ => ⟨S1x16, .i32⟩
  | .hbm, ⟨14, _⟩ => ⟨S16, .i32⟩
  | .hbm, ⟨15, _⟩ => ⟨S1x16, .i32⟩
  | .hbm, ⟨16, _⟩ => ⟨S1x4, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .bf16⟩
  | .hbm, ⟨21, _⟩ => ⟨S16x4, .f32⟩
  | .local _ .vmem, ⟨0, _⟩ => ⟨S4096x1024, .f32⟩
  | .local _ .vmem, ⟨1, _⟩ => ⟨S4096x1024, .f32⟩
  | .local _ .vmem, ⟨2, _⟩ => ⟨S1x16, .i32⟩
  | .local _ .vmem, ⟨3, _⟩ => ⟨S1x16, .i32⟩
  | .local _ .vmem, ⟨4, _⟩ => ⟨S1024x512, .fp8e4m3⟩
  | .local _ .vmem, ⟨5, _⟩ => ⟨S256x1, .bf16⟩
  | .local _ .vmem, ⟨6, _⟩ => ⟨S1024x4, .f32⟩
  | .local _ .vmem, ⟨7, _⟩ => ⟨S1x4, .f32⟩
  | .local _ .vmem, ⟨8, _⟩ => ⟨S16x4, .f32⟩
  | .local _ .vmem, ⟨9, _⟩ => ⟨S16x1024, .f32⟩
  | .local _ .vmem, ⟨10, _⟩ => ⟨S16x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v188 : BitVec 1 := Scalar.cmpi .eq arg0 c7_i32
  let v189 : BitVec 32 := Scalar.extui v188
  let c0_i32_62 : BitVec 32 := 0#32
  let v190 : BitVec 1 := Scalar.cmpi .ne v189 c0_i32_62
  v190

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32768x1024 : Shape := ⟨2, ![32768, 1024]⟩
abbrev S17 : Shape := ⟨1, ![17]⟩
abbrev S1024x256 : Shape := ⟨2, ![1024, 256]⟩
abbrev S256x1 : Shape := ⟨2, ![256, 1]⟩
abbrev S1024x4 : Shape := ⟨2, ![1024, 4]⟩
abbrev S4 : Shape := ⟨1, ![4]⟩
abbrev S16 : Shape := ⟨1, ![16]⟩
abbrev S1x16 : Shape := ⟨2, ![1, 16]⟩
abbrev S32768 : Shape := ⟨1, ![32768]⟩
abbrev S32768x1 : Shape := ⟨2, ![32768, 1]⟩
abbrev S32768x16 : Shape := ⟨2, ![32768, 16]⟩
abbrev S_ : Shape := ⟨0, ![]⟩
abbrev S32768x256 : Shape := ⟨2, ![32768, 256]⟩
abbrev S16x1024 : Shape := ⟨2, ![16, 1024]⟩
abbrev S16x4 : Shape := ⟨2, ![16, 4]⟩
abbrev S1x4 : Shape := ⟨2, ![1, 4]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S1024x256, .f32⟩
  | .hbm, ⟨3, _⟩ => ⟨S1024x256, .f32⟩
  | .hbm, ⟨4, _⟩ => ⟨S256x1, .f32⟩
  | .hbm, ⟨5, _⟩ => ⟨S1024x4, .f32⟩
  | .hbm, ⟨6, _⟩ => ⟨S4, .f32⟩
  | .hbm, ⟨7, _⟩ => ⟨S16, .i32⟩
  | .hbm, ⟨8, _⟩ => ⟨S1x16, .i32⟩
  | .hbm, ⟨9, _⟩ => ⟨S32768, .i32⟩
  | .hbm, ⟨10, _⟩ => ⟨S32768x1, .i32⟩
  | .hbm, ⟨11, _⟩ => ⟨S32768x16, .i32⟩
  | .hbm, ⟨12, _⟩ => ⟨S32768x16, .i32⟩
  | .hbm, ⟨13, _⟩ => ⟨S32768x16, .i1⟩
  | .hbm, ⟨14, _⟩ => ⟨S32768x16, .i32⟩
  | .hbm, ⟨15, _⟩ => ⟨S_, .i32⟩
  | .hbm, ⟨16, _⟩ => ⟨S32768, .i32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S32768x256, .f32⟩
  | .hbm, ⟨22, _⟩ => ⟨S_, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S32768x1, .f32⟩
  | .hbm, ⟨30, _⟩ => ⟨S32768, .f32⟩
  | .hbm, ⟨31, _⟩ => ⟨S32768x1, .i32⟩
  | .hbm, ⟨32, _⟩ => ⟨S16, .i32⟩
  | .hbm, ⟨33, _⟩ => ⟨S1x16, .i32⟩
  | .hbm, ⟨34, _⟩ => ⟨S32768x16, .i32⟩
  | .hbm, ⟨35, _⟩ => ⟨S32768x16, .i32⟩
  | .hbm, ⟨36, _⟩ => ⟨S32768x16, .i1⟩
  | .hbm, ⟨37, _⟩ => ⟨S32768x1, .f32⟩
  | .hbm, ⟨38, _⟩ => ⟨S_, .f32⟩
  | .hbm, ⟨39, _⟩ => ⟨S_, .f32⟩
  | .hbm, ⟨40, _⟩ => ⟨S32768x16, .f32⟩
  | .hbm, ⟨41, _⟩ => ⟨S32768x16, .f32⟩
  | .hbm, ⟨42, _⟩ => ⟨S32768x16, .f32⟩
  | .hbm, ⟨43, _⟩ => ⟨S_, .f32⟩
  | .hbm, ⟨44, _⟩ => ⟨S16, .f32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S32768x1, .i32⟩
  | .hbm, ⟨53, _⟩ => ⟨S32768, .f32⟩
  | .hbm, ⟨54, _⟩ => ⟨S32768, .f32⟩
  | .hbm, ⟨55, _⟩ => ⟨S32768, .f32⟩
  | .hbm, ⟨56, _⟩ => ⟨S_, .f32⟩
  | .hbm, ⟨57, _⟩ => ⟨S16, .f32⟩
  | .hbm, ⟨58, _⟩ => ⟨S32768x1, .i32⟩
  | .hbm, ⟨59, _⟩ => ⟨S16, .f32⟩
  | .hbm, ⟨60, _⟩ => ⟨S_, .i32⟩
  | .hbm, ⟨61, _⟩ => ⟨S32768, .i32⟩
  | .hbm, ⟨62, _⟩ => ⟨S32768, .i1⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S32768, .i32⟩
  | .hbm, ⟨67, _⟩ => ⟨S32768x1, .i32⟩
  | .hbm, ⟨68, _⟩ => ⟨S32768, .f32⟩
  | .hbm, ⟨69, _⟩ => ⟨S32768, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S16x1024, .f32⟩
  | .hbm, ⟨75, _⟩ => ⟨S32768x1, .i32⟩
  | .hbm, ⟨76, _⟩ => ⟨S16x1024, .f32⟩
  | .hbm, ⟨77, _⟩ => ⟨S16x4, .f32⟩
  | .hbm, ⟨78, _⟩ => ⟨S1x4, .f32⟩
  | .hbm, ⟨79, _⟩ => ⟨S16x4, .f32⟩
  | .hbm, ⟨80, _⟩ => ⟨S16x4, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.Blocks.lean ====
/-
  What the body reads at one grid point, in terms of the arrays the caller passed: the 4096 rows of the tokens that the
  point works on, and the six small operands, which every point reads whole.
-/
module

public import proofs.«01_k».proof.Proof.Gen.KernelIdeal.Frame
public import Idealize.ShloMosaic.Lib.Pipeline.ValueKit
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The block each window holds at point `t`: the tokens move down one block a point, every other operand and the
    result stay at their only block. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The grid has one axis: a point's coordinate is its number. -/
theorem coord_at : ∀ t : Fin cfg0.N, (grid0.coords t 0).val = t.val := (by decide +kernel : ∀ t : Fin grid0.N, _)

/-- The 1024 rows from row `o` of point `t`'s block are the tokens from `4096 t + o` on. -/
theorem rows_at (c : Dev nD) (t : Fin cfg0.N) (o : Nat)
    (h : ∀ a : Fin 2, (![o, 0] : Fin 2 → Nat) a + (![1024, 1024] : Fin 2 → Nat) a ≤ S4096x1024.size a) (r k : Fin 1024)
    (n : Fin 32768) (hn : n.val = 4096 * t.val + (o + r.val)) :
    View.ld (show Vec Ideal S4096x1024 .f32 from iblk m c 0 t) (Rect.unit ![o, 0] ![1024, 1024] h) (ix2 r k)
      = (show FVec Ideal S32768x1024 .f32 from m ((c : Thread nD τ).loc main_arg0)) (ix2 n k) := by
  pointwise
  blk_point [iblk, V, idx t]

/-- The first token of each bag. -/
theorem lo_at (c : Dev nD) (t : Fin cfg0.N) (b : Fin 16) :
    (show IVec S1x16 32 from iblk m c 1 t) (ix2 0 b)
      = (show IVec S17 32 from m ((c : Thread nD τ).loc main_arg1)) (ix1 ⟨b.val, by omega⟩) := by
  have he : ((cfg0.win 1).blk t).view.emb (ix2 0 b) = (ix2 0 b : S1x16.Idx) := by blk_ext [idx t]
  show V m c main_v5 (((cfg0.win 1).blk t).view.emb (ix2 0 b)) = _
  rw [he]
  entry_read
  pointwise

/-- The token after the last one of each bag. -/
theorem hi_at (c : Dev nD) (t : Fin cfg0.N) (b : Fin 16) :
    (show IVec S1x16 32 from iblk m c 2 t) (ix2 0 b)
      = (show IVec S17 32 from m ((c : Thread nD τ).loc main_arg1)) (ix1 ⟨1 + b.val, by omega⟩) := by
  have he : ((cfg0.win 2).blk t).view.emb (ix2 0 b) = (ix2 0 b : S1x16.Idx) := by blk_ext [idx t]
  show V m c main_v7 (((cfg0.win 2).blk t).view.emb (ix2 0 b)) = _
  rw [he]
  entry_read
  pointwise

/-- The left half of the gate weights: 64 times `w_v`. -/
theorem wv_at (c : Dev nD) (t : Fin cfg0.N) (k : Fin 1024) (h : Fin 256) :
    (show FVec Ideal S1024x512 .fp8e4m3 from iblk m c 3 t) (ix2 k ⟨h.val, by omega⟩)
      = (show FVec Ideal S1024x256 .f32 from m ((c : Thread nD τ).loc main_arg2)) (ix2 k h) * Ideal.ofBits FTy.f32 0x42800000#32 := by
  have he : ((cfg0.win 3).blk t).view.emb (ix2 k ⟨h.val, by omega⟩) = (ix2 k ⟨h.val, by omega⟩ : S1024x512.Idx) := by
    blk_ext [idx t]
  show V m c main_v3 (((cfg0.win 3).blk t).view.emb (ix2 k ⟨h.val, by omega⟩)) = _
  rw [he]
  entry_read
  pointwise

/-- The right half of the gate weights: 64 times `w_u`. -/
theorem wu_at (c : Dev nD) (t : Fin cfg0.N) (k : Fin 1024) (h : Fin 256) :
    (show FVec Ideal S1024x512 .fp8e4m3 from iblk m c 3 t) (ix2 k ⟨256 + h.val, by omega⟩)
      = (show FVec Ideal S1024x256 .f32 from m ((c : Thread nD τ).loc main_arg3)) (ix2 k h) * Ideal.ofBits FTy.f32 0x42800000#32 := by
  have he : ((cfg0.win 3).blk t).view.emb (ix2 k ⟨256 + h.val, by omega⟩) = (ix2 k ⟨256 + h.val, by omega⟩ : S1024x512.Idx) := by
    blk_ext [idx t]
  show V m c main_v3 (((cfg0.win 3).blk t).view.emb (ix2 k ⟨256 + h.val, by omega⟩)) = _
  rw [he]
  entry_read
  pointwise

/-- The attention weights, halved. -/
theorem wa_at (c : Dev nD) (t : Fin cfg0.N) (h : Fin 256) :
    (show FVec Ideal S256x1 .bf16 from iblk m c 4 t) (ix2 h 0)
      = Ideal.ofBits FTy.f32 0x3F000000#32 * (show FVec Ideal S256x1 .f32 from m ((c : Thread nD τ).loc main_arg4)) (ix2 h 0) := by
  have he : ((cfg0.win 4).blk t).view.emb (ix2 h 0) = (ix2 h 0 : S256x1.Idx) := by blk_ext [idx t]
  show V m c main_v11 (((cfg0.win 4).blk t).view.emb (ix2 h 0)) = _
  rw [he]
  entry_read
  pointwise

/-- The classifier's matrix, as it is. -/
theorem wc_at (c : Dev nD) (t : Fin cfg0.N) (k : Fin 1024) (q : Fin 4) :
    (show FVec Ideal S1024x4 .f32 from iblk m c 5 t) (ix2 k q)
      = (show FVec Ideal S1024x4 .f32 from m ((c : Thread nD τ).loc main_arg5)) (ix2 k q) := by
  blk_ext [iblk, V, idx t]

/-- The classifier's bias, as a row. -/
theorem bc_at (c : Dev nD) (t : Fin cfg0.N) (q : Fin 4) :
    (show FVec Ideal S1x4 .f32 from iblk m c 6 t) (ix2 0 q)
      = (show FVec Ideal S4 .f32 from m ((c : Thread nD τ).loc main_arg6)) (ix1 q) := by
  have he : ((cfg0.win 6).blk t).view.emb (ix2 0 q) = (ix2 0 q : S1x4.Idx) := by blk_ext [idx t]
  show V m c main_v8 (((cfg0.win 6).blk t).view.emb (ix2 0 q)) = _
  rw [he]
  entry_read
  pointwise

end Cert.KernelIdeal.Value

end
-- ==== Proof.Arith.lean ====
/-
  Arithmetic over the extended reals, with no program in sight: a positive finite factor goes through a sum, the gate
  computed from a hyperbolic tangent is the logistic function, and a softmax-weighted sum does not depend on the shift
  of the exponents nor on where the division by the normaliser stands.
-/
module

public import Idealize.ShloMosaic.PureOps.Ideal
public import Idealize.ShloMosaic.PureOps.Ideal.Laws

@[expose] public section

noncomputable section

namespace Cert.Arith

open Idealize.ShloMosaic

/-- A finite factor that is not negative goes into a sum of extended reals, whatever the summands. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Weights scaled by `c` and the product scaled back by `d` give the plain contraction scaled by `c * d`. -/
theorem scaled_dot {ι : Type} (s : Finset ι) (x w : ι → EReal) (c d : ℝ) (hc : 0 ≤ c) :
    (∑ i ∈ s, x i * (w i * (c : EReal))) * (d : EReal) = (∑ i ∈ s, x i * w i) * ((c * d : ℝ) : EReal) := by
  simp only [← mul_assoc]
  rw [← sum_mul_real s _ c hc, mul_assoc, ← EReal.coe_mul]

/-- `tanh` at minus infinity. -/
theorem tanh_bot : Ideal.tanh ⊥ = ((-1 : ℝ) : EReal) := by
  show (-1 : EReal) = _
  simp

/-- `tanh` at plus infinity. -/
theorem tanh_top : Ideal.tanh ⊤ = ((1 : ℝ) : EReal) := by
  show (1 : EReal) = _
  simp

/-- `tanh` at a real. -/
theorem tanh_coe (r : ℝ) : Ideal.tanh (r : EReal) = ((Real.tanh r : ℝ) : EReal) := rfl

/-- The exponential at a real. -/
theorem exp_coe (r : ℝ) : Ideal.exp (r : EReal) = ((Real.exp r : ℝ) : EReal) := rfl

/-- `tanh` of an extended real is a real number. -/
theorem tanh_real (u : EReal) : ∃ t : ℝ, Ideal.tanh u = (t : EReal) := by
  induction u with
  | bot => exact ⟨-1, tanh_bot⟩
  | top => exact ⟨1, tanh_top⟩
  | coe r => exact ⟨Real.tanh r, tanh_coe r⟩

/-- The logistic function of an extended real is a real number. -/
theorem logistic_real (u : EReal) : ∃ t : ℝ, Ideal.logistic u = (t : EReal) := by
  induction u with
  | bot => exact ⟨0, by simp⟩
  | top => exact ⟨1, by simp⟩
  | coe r => exact ⟨(1 + Real.exp (-r))⁻¹, by simp⟩

/-- The half-angle form of the logistic function over the reals. -/
theorem half_tanh (r : ℝ) : (Real.tanh (r * (1 / 2)) + 1) * (1 / 2) = (1 + Real.exp (-r))⁻¹ := by
  have h1 : Real.exp (-r) = Real.exp (-(r * (1 / 2))) * Real.exp (-(r * (1 / 2))) := by
    rw [← Real.exp_add]; congr 1; ring
  have hp := Real.exp_pos (r * (1 / 2))
  have hq : Real.exp (-(r * (1 / 2))) = (Real.exp (r * (1 / 2)))⁻¹ := Real.exp_neg _
  rw [h1, Real.tanh_eq_sinh_div_cosh, Real.sinh_eq, Real.cosh_eq, hq]
  have : Real.exp (r * (1 / 2)) ≠ 0 := hp.ne'
  have h2 : Real.exp (r * (1 / 2)) ^ 2 + 1 ≠ 0 := by positivity
  field_simp
  ring

/-- The gate: half of one plus the hyperbolic tangent of half the argument is the logistic function, at the infinities too. -/
theorem gate (u : EReal) : (Ideal.tanh (u * ((1 / 2 : ℝ) : EReal)) + 1) * ((1 / 2 : ℝ) : EReal) = Ideal.logistic u := by
  induction u with
  | bot =>
    rw [EReal.bot_mul_coe_of_pos (by norm_num)]
    rw [tanh_bot, ← EReal.coe_one, ← EReal.coe_add, ← EReal.coe_mul]
    norm_num
  | top =>
    rw [EReal.top_mul_coe_of_pos (by norm_num)]
    rw [tanh_top, ← EReal.coe_one, ← EReal.coe_add, ← EReal.coe_mul]
    norm_num
  | coe r =>
    rw [← EReal.coe_mul]
    rw [tanh_coe, ← EReal.coe_one, ← EReal.coe_add, ← EReal.coe_mul, half_tanh]
    simp

/-- A finite sum of reals, read in the extended reals, is a real. -/
theorem sum_real {ι : Type} (s : Finset ι) (f : ι → EReal) (g : ι → ℝ) (h : ∀ i ∈ s, f i = (g i : EReal)) :
    ∑ i ∈ s, f i = ((∑ i ∈ s, g i : ℝ) : EReal) := by
  classical
  induction s using Finset.induction_on with
  | empty => simp
  | insert a s ha ih =>
    rw [Finset.sum_insert ha, Finset.sum_insert ha, ih fun i hi => h i (Finset.mem_insert_of_mem hi),
      h a (Finset.mem_insert_self a s), EReal.coe_add]

/-- The maximum over a nonempty bag of real scores, the other tokens standing at minus infinity, is real. -/
theorem bag_max_real {ι : Type} [Fintype ι] (p : ι → Prop) [DecidablePred p] (s : ι → ℝ) (h : ∃ n, p n) :
    ∃ M : ℝ, (Finset.univ : Finset ι).fold max (⊥ : EReal) (fun n => if p n then (s n : EReal) else ⊥) = (M : EReal) := by
  obtain ⟨n, hn⟩ := h
  have hlt : (Finset.univ : Finset ι).fold max (⊥ : EReal) (fun n => if p n then (s n : EReal) else ⊥) < ⊤ := by
    rw [Finset.fold_max_lt]
    refine ⟨bot_lt_top, fun x _ => ?_⟩
    split
    · exact EReal.coe_lt_top _
    · exact bot_lt_top
  have hle : ((s n : ℝ) : EReal) ≤ (Finset.univ : Finset ι).fold max (⊥ : EReal) (fun n => if p n then (s n : EReal) else ⊥) := by
    rw [Finset.le_fold_max]
    exact Or.inr ⟨n, Finset.mem_univ n, by rw [if_pos hn]⟩
  exact ⟨_, (EReal.coe_toReal hlt.ne (ne_of_gt (lt_of_lt_of_le (EReal.bot_lt_coe _) hle))).symm⟩

/-- The pooled logit of one bag. On the left the weights are bare exponentials masked to the bag, summed against the
    token rows, contracted with the classifier and divided once by the sum of the weights; on the right every weight is
    shifted by `M`, divided by the shifted normaliser before the pooling, and the sums range over the bag. -/
theorem pooled_eq {ι κ : Type} [Fintype ι] [Fintype κ] (p : ι → Prop) [DecidablePred p] (h : ∃ n, p n) (s : ι → ℝ) (M : ℝ)
    (x : ι → κ → EReal) (w : κ → EReal) :
    Ideal.div (∑ k, (∑ n, (if p n then Ideal.exp (s n : EReal) else 0) * x n k) * w k)
        (∑ n, (if p n then Ideal.exp (s n : EReal) else 0))
      = ∑ k, (∑ n with p n, x n k * Ideal.div (Ideal.exp ((s n : EReal) - (M : EReal)))
          (∑ n with p n, Ideal.exp ((s n : EReal) - (M : EReal)))) * w k := by
  classical
  have hden : (∑ n, (if p n then Ideal.exp (s n : EReal) else 0)) = ((∑ n with p n, Real.exp (s n) : ℝ) : EReal) := by
    rw [← Finset.sum_filter]
    exact sum_real _ _ _ fun i _ => exp_coe _
  have hD : (∑ n with p n, Ideal.exp ((s n : EReal) - (M : EReal))) = ((∑ n with p n, Real.exp (s n - M) : ℝ) : EReal) :=
    sum_real _ _ _ fun i _ => by rw [← EReal.coe_sub, exp_coe]
  have hne : (Finset.univ.filter p).Nonempty := h.imp fun n hn => by simpa using hn
  have hpos : 0 < ∑ n with p n, Real.exp (s n) := Finset.sum_pos (fun i _ => Real.exp_pos _) hne
  have hposD : 0 < ∑ n with p n, Real.exp (s n - M) := Finset.sum_pos (fun i _ => Real.exp_pos _) hne
  have hDe : ∑ n with p n, Real.exp (s n - M) = (∑ n with p n, Real.exp (s n)) * Real.exp (-M) := by
    rw [Finset.sum_mul]
    exact Finset.sum_congr rfl fun i _ => by rw [← Real.exp_add, sub_eq_add_neg]
  have hw : ∀ n, Ideal.div (Ideal.exp ((s n : EReal) - (M : EReal))) ((∑ n with p n, Real.exp (s n - M) : ℝ) : EReal)
      = Ideal.exp (s n : EReal) * ((1 / ∑ n with p n, Real.exp (s n) : ℝ) : EReal) := fun n => by
    rw [Ideal.div_coe hposD.ne', ← EReal.coe_sub, exp_coe, exp_coe, ← EReal.coe_mul, ← EReal.coe_mul, hDe]
    congr 1
    have h1 := Real.exp_pos (-M)
    rw [sub_eq_add_neg, Real.exp_add]
    field_simp
  have hc : 0 ≤ 1 / ∑ n with p n, Real.exp (s n) := by positivity
  rw [hden, hD, Ideal.div_coe hpos.ne', sum_mul_real _ _ _ hc]
  generalize (1 / ∑ n with p n, Real.exp (s n)) = c at hc hw ⊢
  generalize (∑ n with p n, Real.exp (s n - M)) = D at hw ⊢
  refine Finset.sum_congr rfl fun k _ => ?_
  rw [mul_right_comm, sum_mul_real _ _ _ hc]
  refine congrArg (· * w k) ?_
  rw [Finset.sum_filter (p := p)]
  refine Finset.sum_congr rfl fun n _ => ?_
  by_cases hn : p n
  · rw [if_pos hn, if_pos hn, hw, mul_comm (x n k) (_ * _), mul_right_comm]
  · rw [if_neg hn, if_neg hn, zero_mul, zero_mul]

end Cert.Arith

end
-- ==== Proof.Tokens.lean ====
/-
  The tokens of the bags, with no program in sight: the gated score of one token, the bag that a token belongs to, the
  weight of a token in a bag, and the numbering of the tokens by grid point, sub-block and row.
-/
module

public import proofs.«01_k».proof.Proof.Arith
public import Idealize.ShloMosaic.Lib.IdealHost

@[expose] public section

noncomputable section

namespace Cert.Arith

open Idealize.ShloMosaic

/-! ## The literals of the kernel -/

/-- The pattern `0x42800000` is 64. -/
theorem lit_64 : Ideal.ofBits .f32 0x42800000#32 = ((64 : ℝ) : EReal) := by
  simp [Ideal.ofBits, Ideal.ieee, -EReal.coe_mul]; norm_num

/-- The pattern `0x3F000000` is one half. -/
theorem lit_half : Ideal.ofBits .f32 0x3F000000#32 = ((1 / 2 : ℝ) : EReal) := by
  simp [Ideal.ofBits, Ideal.ieee, -EReal.coe_mul]; norm_num

/-- The pattern `0x3C800000` is 1/64. -/
theorem lit_64th : Ideal.ofBits .f32 0x3C800000#32 = ((1 / 64 : ℝ) : EReal) := by
  simp [Ideal.ofBits, Ideal.ieee, -EReal.coe_mul]; norm_num

/-- The pattern `0x3C000000` is 1/128. -/
theorem lit_128th : Ideal.ofBits .f32 0x3C000000#32 = ((1 / 128 : ℝ) : EReal) := by
  simp [Ideal.ofBits, Ideal.ieee, -EReal.coe_mul]; norm_num

/-- The pattern `0xFF800000` is minus infinity. -/
theorem lit_bot : Ideal.ofBits .f32 0xFF800000#32 = (⊥ : EReal) := by
  simp [Ideal.ofBits, Ideal.ieee]

/-! ## The score of a token -/

/-- The gated score of a token with features `x`: each hidden unit's `tanh` times its logistic gate, weighted by `a`. -/
def tokenScore (x : Fin 1024 → EReal) (wv wu : Fin 1024 → Fin 256 → EReal) (a : Fin 256 → EReal) : EReal :=
  ∑ h, Ideal.tanh (∑ k, x k * wv k h) * Ideal.logistic (∑ k, x k * wu k h) * a h

/-- The score as the kernel computes it, from weights scaled by 64, a gate taken from a hyperbolic tangent of half the
    argument, and halved attention weights, is the gated score. -/
theorem kernel_score (x : Fin 1024 → EReal) (wv wu : Fin 1024 → Fin 256 → EReal) (a : Fin 256 → EReal) :
    (∑ h, Ideal.tanh ((∑ k, x k * (wv k h * Ideal.ofBits .f32 0x42800000#32)) * Ideal.ofBits .f32 0x3C800000#32)
        * (Ideal.tanh ((∑ k, x k * (wu k h * Ideal.ofBits .f32 0x42800000#32)) * Ideal.ofBits .f32 0x3C000000#32) + 1)
        * (Ideal.ofBits .f32 0x3F000000#32 * a h)) = tokenScore x wv wu a := by
  unfold tokenScore
  refine Finset.sum_congr rfl fun h _ => ?_
  rw [lit_64, lit_64th, lit_128th, lit_half, scaled_dot _ _ _ _ _ (by norm_num), scaled_dot _ _ _ _ _ (by norm_num),
    show (64 * (1 / 64) : ℝ) = 1 by norm_num, show (64 * (1 / 128) : ℝ) = 1 / 2 by norm_num, EReal.coe_one, mul_one,
    ← mul_assoc, mul_assoc (Ideal.tanh _) (_ + 1), gate]

/-- With finite attention weights the score of any token is a real number, whatever its features and the gate weights. -/
theorem tokenScore_real (x : Fin 1024 → EReal) (wv wu : Fin 1024 → Fin 256 → EReal) (a : Fin 256 → EReal)
    (ha : ∀ h, ∃ r : ℝ, a h = (r : EReal)) : ∃ r : ℝ, tokenScore x wv wu a = (r : EReal) := by
  choose t ht using fun h => tanh_real (∑ k, x k * wv k h)
  choose g hg using fun h => logistic_real (∑ k, x k * wu k h)
  choose w hw using ha
  refine ⟨∑ h, t h * g h * w h, ?_⟩
  unfold tokenScore
  exact sum_real _ _ _ fun h _ => by rw [ht, hg, hw, ← EReal.coe_mul, ← EReal.coe_mul]

/-! ## The bag of a token -/

/-- Token `n` lies between two offsets. -/
abbrev InBag (lo hi : BitVec 32) (n : ℕ) : Prop := lo.toInt ≤ (n : ℤ) ∧ (n : ℤ) < hi.toInt

/-- A token number read back as a signed word. -/
theorem toInt_token (n : ℕ) (hn : n < 2 ^ 31) : (BitVec.ofNat 32 n).toInt = (n : ℤ) := by
  rw [BitVec.toInt_eq_toNat_of_lt (by rw [BitVec.toNat_ofNat]; omega), BitVec.toNat_ofNat,
    Nat.mod_eq_of_lt (by omega)]

/-- Choosing by the two signed comparisons of a token's number with a bag's offsets is choosing by membership. -/
theorem select_bag {α : Type} (lo hi : BitVec 32) (n : ℕ) (hn : n < 2 ^ 31) (a b : α) :
    Scalar.select (IntOp.andi (IntOp.cmpi CmpIPredicate.sge (BitVec.ofNat 32 n) lo)
      (IntOp.cmpi CmpIPredicate.slt (BitVec.ofNat 32 n) hi)) a b = if InBag lo hi n then a else b := by
  unfold Scalar.select
  congr 1
  simp only [IntOp.andi, IntOp.cmpi, BitVec.sle, BitVec.slt, toInt_token n hn, InBag]
  by_cases h1 : lo.toInt ≤ (n : ℤ) <;> by_cases h2 : (n : ℤ) < hi.toInt <;> simp [h1, h2]

/-! ## Token numbers -/

/-- The word that a sub-block's first token plus a row makes, at point `t`. -/
theorem token_word (t o r : ℕ) :
    IntOp.addi (Scalar.addi (Scalar.muli (BitVec.ofNat 32 t) 4096#32) (BitVec.ofNat 32 o)) (BitVec.ofNat 32 r)
      = BitVec.ofNat 32 (4096 * t + (o + r)) := by
  show BitVec.ofNat 32 t * 4096#32 + BitVec.ofNat 32 o + BitVec.ofNat 32 r = _
  apply BitVec.eq_of_toNat_eq
  simp only [BitVec.toNat_add, BitVec.toNat_mul, BitVec.toNat_ofNat]
  omega

/-- Row `r` of sub-block `j` at point `t`. -/
def token (t : Fin 8) (j : Fin 4) (r : Fin 1024) : Fin 32768 := ⟨4096 * t.val + (1024 * j.val + r.val), by omega⟩

/-- Every token is one row of one sub-block at one point, so the three sums are one. -/
theorem sum_tokens (f : Fin 32768 → EReal) : ∑ t, ∑ j, ∑ r, f (token t j r) = ∑ n, f n := by
  rw [← Fintype.sum_prod_type' (f := fun t j => ∑ r, f (token t j r)),
    ← Fintype.sum_prod_type' (f := fun (p : Fin 8 × Fin 4) r => f (token p.1 p.2 r))]
  refine Fintype.sum_bijective (fun p : (Fin 8 × Fin 4) × Fin 1024 => token p.1.1 p.1.2 p.2) ⟨?_, ?_⟩ _ _ fun _ => rfl
  · rintro ⟨⟨t, j⟩, r⟩ ⟨⟨t', j'⟩, r'⟩ h
    have h := congrArg Fin.val h
    simp only [token] at h
    have : t = t' := by ext; omega
    have : j = j' := by ext; omega
    have : r = r' := by ext; omega
    simp_all
  · intro n
    refine ⟨((⟨n.val / 4096, by omega⟩, ⟨n.val % 4096 / 1024, by omega⟩), ⟨n.val % 1024, by omega⟩), ?_⟩
    ext
    simp only [token]
    omega

end Cert.Arith

end
-- ==== Proof.Chunk.lean ====
/-
  What one grid point adds to the two accumulators: the body works through its 4096 tokens in four sub-blocks of 1024
  rows, and each sub-block contributes, for every bag, the sum of the weights of its tokens and the weighted sum of
  their feature rows.
-/
module

public import proofs.«01_k».proof.Proof.Blocks
public import proofs.«01_k».proof.Proof.Tokens

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Arith

/-! ## The four quantities of one sub-block -/

/-- The scores of the rows of a sub-block. -/
def score (x : Vec Ideal S1024x1024 .f32) (w : Vec Ideal S1024x512 .fp8e4m3) (a : Vec Ideal S256x1 .bf16) :
    FVec Ideal S1024x1 .f32 :=
  k0_pay24 (k0_pay9 a) (k0_pay19 (k0_pay8 w) (k0_pay14 x) (constant S1024x512 .f32 0x00000000#32))

/-- Which rows of the sub-block starting at token `base` lie in which bag. -/
def mask (lo hi : Vec Ideal S1x16 .i32) (base : BitVec 32) : IVec S1024x16 1 :=
  k0_pay28 (k0_pay6 (F := Ideal) lo) (k0_pay7 (F := Ideal) hi) base

/-- The weighted sums of the feature rows of a sub-block, one for each bag. -/
def pool (x : Vec Ideal S1024x1024 .f32) (w : Vec Ideal S1024x512 .fp8e4m3) (a : Vec Ideal S256x1 .bf16)
    (lo hi : Vec Ideal S1x16 .i32) (base : BitVec 32) : FVec Ideal S16x1024 .f32 :=
  k0_pay36 (k0_pay13 x) (score x w a) (mask lo hi base)

/-- The sums of the weights of a sub-block, one for each bag. -/
def mass (x : Vec Ideal S1024x1024 .f32) (w : Vec Ideal S1024x512 .fp8e4m3) (a : Vec Ideal S256x1 .bf16)
    (lo hi : Vec Ideal S1x16 .i32) (base : BitVec 32) : FVec Ideal S16x1 .f32 :=
  k0_pay37 (score x w a) (mask lo hi base)

/-- The body's update of the pooled rows: the four sub-blocks' sums are added to each other, then to what was there. -/
theorem acc_step (x0 x1 x2 x3 : Vec Ideal S1024x1024 .f32) (w : Vec Ideal S1024x512 .fp8e4m3) (a : Vec Ideal S256x1 .bf16)
    (lo hi : Vec Ideal S1x16 .i32) (b0 b1 b2 b3 : BitVec 32) (acc : Vec Ideal S16x1024 .f32) (j : S16x1024.Idx) :
    k0_pay1 (k0_pay36 (k0_pay13 x3)
        (k0_pay27 (k0_pay9 a) (k0_pay22 (k0_pay8 w) (k0_pay17 x3)) (k0_pay23 (k0_pay8 w) (k0_pay17 x3)) (FloatOps.ofBits FTy.f32 1065353216#32))
        (k0_pay31 (k0_pay6 (F := Ideal) lo) (k0_pay7 (F := Ideal) hi) b3)) acc
      (k0_pay41 (k0_pay10 x0) (k0_pay11 x1) (k0_pay12 x2)
        (k0_pay24 (k0_pay9 a) (k0_pay19 (k0_pay8 w) (k0_pay14 x0) (constant S1024x512 FTy.f32 0#32)))
        (k0_pay25 (k0_pay9 a) (k0_pay20 (k0_pay8 w) (k0_pay15 x1)))
        (k0_pay26 (k0_pay9 a) (k0_pay21 (k0_pay8 w) (k0_pay16 x2)))
        (k0_pay28 (k0_pay6 (F := Ideal) lo) (k0_pay7 (F := Ideal) hi) b0)
        (k0_pay29 (k0_pay6 (F := Ideal) lo) (k0_pay7 (F := Ideal) hi) b1)
        (k0_pay30 (k0_pay6 (F := Ideal) lo) (k0_pay7 (F := Ideal) hi) b2)) j
      = acc j + (pool x0 w a lo hi b0 j + pool x1 w a lo hi b1 j + pool x2 w a lo hi b2 j + pool x3 w a lo hi b3 j) := by
  have h : Ideal.ofBits .f32 0x00000000#32 + pool x0 w a lo hi b0 j = pool x0 w a lo hi b0 j := by
    rw [Ideal.ofBits_zero_f32, zero_add]
  rw [← h]
  unfold k0_pay1
  rw [shapeCast_self]
  rfl

/-- The body's update of the masses, in the same order. -/
theorem den_step (x0 x1 x2 x3 : Vec Ideal S1024x1024 .f32) (w : Vec Ideal S1024x512 .fp8e4m3) (a : Vec Ideal S256x1 .bf16)
    (lo hi : Vec Ideal S1x16 .i32) (b0 b1 b2 b3 : BitVec 32) (den : Vec Ideal S16x1 .f32) (j : S16x1.Idx) :
    k0_pay2
      (k0_pay37 (k0_pay24 (k0_pay9 a) (k0_pay19 (k0_pay8 w) (k0_pay14 x0) (constant S1024x512 FTy.f32 0#32)))
        (k0_pay28 (k0_pay6 (F := Ideal) lo) (k0_pay7 (F := Ideal) hi) b0))
      (k0_pay38 (k0_pay25 (k0_pay9 a) (k0_pay20 (k0_pay8 w) (k0_pay15 x1)))
        (k0_pay29 (k0_pay6 (F := Ideal) lo) (k0_pay7 (F := Ideal) hi) b1))
      (k0_pay39 (k0_pay26 (k0_pay9 a) (k0_pay21 (k0_pay8 w) (k0_pay16 x2)))
        (k0_pay30 (k0_pay6 (F := Ideal) lo) (k0_pay7 (F := Ideal) hi) b2))
      (k0_pay40 (k0_pay27 (k0_pay9 a) (k0_pay22 (k0_pay8 w) (k0_pay17 x3)) (k0_pay23 (k0_pay8 w) (k0_pay17 x3)) (FloatOps.ofBits FTy.f32 1065353216#32))
        (k0_pay31 (k0_pay6 (F := Ideal) lo) (k0_pay7 (F := Ideal) hi) b3)) den j
      = den j + (mass x0 w a lo hi b0 j + mass x1 w a lo hi b1 j + mass x2 w a lo hi b2 j + mass x3 w a lo hi b3 j) := by
  have h : Ideal.ofBits .f32 0x00000000#32 + mass x0 w a lo hi b0 j = mass x0 w a lo hi b0 j := by
    rw [Ideal.ofBits_zero_f32, zero_add]
  rw [← h]
  unfold k0_pay2
  rw [shapeCast_self]
  rfl

/-- The score of a row, the features being `y`, the weights 64 times `wv` and `wu` side by side, and half of `u`. -/
theorem score_at (x : Vec Ideal S1024x1024 .f32) (w : Vec Ideal S1024x512 .fp8e4m3) (a : Vec Ideal S256x1 .bf16)
    (r : Fin 1024) (y : Fin 1024 → EReal) (wv wu : Fin 1024 → Fin 256 → EReal) (u : Fin 256 → EReal)
    (hx : ∀ k, x (ix2 r k) = y k)
    (hv : ∀ k h, w (ix2 k ⟨h.val, by omega⟩) = wv k h * Ideal.ofBits .f32 0x42800000#32)
    (hu : ∀ k h, w (ix2 k ⟨256 + h.val, by omega⟩) = wu k h * Ideal.ofBits .f32 0x42800000#32)
    (ha : ∀ h, a (ix2 h 0) = Ideal.ofBits .f32 0x3F000000#32 * u h) :
    score x w a (ix2 r 0) = tokenScore y wv wu u := by
  unfold score k0_pay24 k0_pay9 k0_pay19 k0_pay8 k0_pay14
  pointwise
  simp only [hx, hv, hu, ha]
  exact kernel_score y wv wu u

/-- The mass of a bag in a sub-block, row by row. -/
theorem mass_at (x : Vec Ideal S1024x1024 .f32) (w : Vec Ideal S1024x512 .fp8e4m3) (a : Vec Ideal S256x1 .bf16)
    (lo hi : Vec Ideal S1x16 .i32) (base : BitVec 32) (b : Fin 16) (n : Fin 1024 → ℕ) (hn : ∀ r, n r < 2 ^ 31)
    (hb : ∀ r, IntOp.addi base (BitVec.ofNat 32 r.val) = BitVec.ofNat 32 (n r)) :
    mass x w a lo hi base (ix2 b 0)
      = ∑ r, if InBag (lo (ix2 0 b)) (hi (ix2 0 b)) (n r) then Ideal.exp (score x w a (ix2 r 0)) else 0 := by
  unfold mass k0_pay37 k0_pay32 mask k0_pay28 k0_pay6 k0_pay7
  pointwise
  simp only [hb, select_bag _ _ _ (hn _)]

/-- The pooled rows of a bag in a sub-block, row by row. -/
theorem pool_at (x : Vec Ideal S1024x1024 .f32) (w : Vec Ideal S1024x512 .fp8e4m3) (a : Vec Ideal S256x1 .bf16)
    (lo hi : Vec Ideal S1x16 .i32) (base : BitVec 32) (b : Fin 16) (k : Fin 1024) (n : Fin 1024 → ℕ) (hn : ∀ r, n r < 2 ^ 31)
    (hb : ∀ r, IntOp.addi base (BitVec.ofNat 32 r.val) = BitVec.ofNat 32 (n r)) :
    pool x w a lo hi base (ix2 b k)
      = ∑ r, (if InBag (lo (ix2 0 b)) (hi (ix2 0 b)) (n r) then Ideal.exp (score x w a (ix2 r 0)) else 0) * x (ix2 r k) := by
  unfold pool k0_pay36 k0_pay35 k0_pay13 mask k0_pay28 k0_pay6 k0_pay7
  pointwise
  simp only [hb, select_bag _ _ _ (hn _), ite_mul, zero_mul]

end Cert.KernelIdeal.Value

end
-- ==== Proof.KernelValue.lean ====
/-
  What the kernel leaves in its result array, as a closed form over the arrays the caller passed: the two accumulators
  after the last grid point are sums over all tokens, and the last point divides their contraction with the classifier.
-/
module

public import proofs.«01_k».proof.Proof.Chunk
public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Arith

variable (m : (ℓ : Loc nD τ sig) → Buf (Elt Ideal) ℓ)

/-! ## The caller's arrays at coordinates -/

/-- Feature `k` of token `n`. -/
def feat (c : Dev nD) (n : Fin 32768) (k : Fin 1024) : EReal :=
  (show FVec Ideal S32768x1024 .f32 from m ((c : Thread nD τ).loc main_arg0)) (ix2 n k)

/-- Offset `b` of the bags. -/
def cu (c : Dev nD) (b : Fin 17) : BitVec 32 := (show IVec S17 32 from m ((c : Thread nD τ).loc main_arg1)) (ix1 b)

/-- The score of token `n`. -/
def scoreOf (c : Dev nD) (n : Fin 32768) : EReal :=
  tokenScore (feat m c n)
    (fun k h => (show FVec Ideal S1024x256 .f32 from m ((c : Thread nD τ).loc main_arg2)) (ix2 k h))
    (fun k h => (show FVec Ideal S1024x256 .f32 from m ((c : Thread nD τ).loc main_arg3)) (ix2 k h))
    (fun h => (show FVec Ideal S256x1 .f32 from m ((c : Thread nD τ).loc main_arg4)) (ix2 h 0))

/-- The weight of token `n` in bag `b`: the exponential of its score if it lies in the bag, zero otherwise. -/
def weight (c : Dev nD) (b : Fin 16) (n : Fin 32768) : EReal :=
  if InBag (cu m c ⟨b.val, by omega⟩) (cu m c ⟨1 + b.val, by omega⟩) n.val then Ideal.exp (scoreOf m c n) else 0

/-- A grid point as one of eight. -/
def pt (t : Fin cfg0.N) : Fin 8 := Fin.cast N_0 t

/-! ## One sub-block of one point -/

/-- The rows of sub-block `j` at point `t`, read at an index: the features of its tokens. -/
theorem chunk_row (c : Dev nD) (t : Fin cfg0.N) (j : Fin 4) (o : Nat) (ho : o = 1024 * j.val)
    (h : ∀ a : Fin 2, (![o, 0] : Fin 2 → Nat) a + (![1024, 1024] : Fin 2 → Nat) a ≤ S4096x1024.size a) (r k : Fin 1024) :
    View.ld (show Vec Ideal S4096x1024 .f32 from iblk m c 0 t) (Rect.unit ![o, 0] ![1024, 1024] h) (ix2 r k)
      = feat m c (token (pt t) j r) k := by
  rw [rows_at m c t o h r k (token (pt t) j r) (by subst ho; rfl)]
  rfl

/-- The scores of the rows of sub-block `j` at point `t` are the scores of its tokens. -/
theorem chunk_score (c : Dev nD) (t : Fin cfg0.N) (j : Fin 4) (o : Nat) (ho : o = 1024 * j.val)
    (h : ∀ a : Fin 2, (![o, 0] : Fin 2 → Nat) a + (![1024, 1024] : Fin 2 → Nat) a ≤ S4096x1024.size a) (r : Fin 1024) :
    score (View.ld (show Vec Ideal S4096x1024 .f32 from iblk m c 0 t) (Rect.unit ![o, 0] ![1024, 1024] h)) (iblk m c 3 t)
      (iblk m c 4 t) (ix2 r 0) = scoreOf m c (token (pt t) j r) :=
  score_at _ _ _ r _ _ _ _ (chunk_row m c t j o ho h r) (wv_at m c t) (wu_at m c t) (wa_at m c t)

/-- The first token of a sub-block plus a row is the token's number. -/
theorem chunk_word (t : Fin cfg0.N) (j : Fin 4) (o : Nat) (ho : o = 1024 * j.val) (r : Fin 1024) :
    IntOp.addi (Scalar.addi (Scalar.muli (BitVec.ofNat 32 (grid0.coords t 0).val) 4096#32) (BitVec.ofNat 32 o)) (BitVec.ofNat 32 r.val)
      = BitVec.ofNat 32 (token (pt t) j r).val := by
  rw [token_word, coord_at]
  subst ho
  rfl

/-- The masses that sub-block `j` of point `t` contributes. -/
theorem chunk_mass (c : Dev nD) (t : Fin cfg0.N) (j : Fin 4) (o : Nat) (ho : o = 1024 * j.val)
    (h : ∀ a : Fin 2, (![o, 0] : Fin 2 → Nat) a + (![1024, 1024] : Fin 2 → Nat) a ≤ S4096x1024.size a) (b : Fin 16) :
    mass (View.ld (show Vec Ideal S4096x1024 .f32 from iblk m c 0 t) (Rect.unit ![o, 0] ![1024, 1024] h)) (iblk m c 3 t)
      (iblk m c 4 t) (iblk m c 1 t) (iblk m c 2 t)
      (Scalar.addi (Scalar.muli (BitVec.ofNat 32 (grid0.coords t 0).val) 4096#32) (BitVec.ofNat 32 o)) (ix2 b 0)
      = ∑ r, weight m c b (token (pt t) j r) := by
  rw [mass_at _ _ _ _ _ _ b (fun r => (token (pt t) j r).val) (fun r => by have := (token (pt t) j r).isLt; omega)
    (chunk_word t j o ho)]
  refine Finset.sum_congr rfl fun r _ => ?_
  rw [chunk_score m c t j o ho h r]
  unfold weight cu
  rw [← lo_at m c t b, ← hi_at m c t b]

/-- The pooled rows that sub-block `j` of point `t` contributes. -/
theorem chunk_pool (c : Dev nD) (t : Fin cfg0.N) (j : Fin 4) (o : Nat) (ho : o = 1024 * j.val)
    (h : ∀ a : Fin 2, (![o, 0] : Fin 2 → Nat) a + (![1024, 1024] : Fin 2 → Nat) a ≤ S4096x1024.size a) (b : Fin 16) (k : Fin 1024) :
    pool (View.ld (show Vec Ideal S4096x1024 .f32 from iblk m c 0 t) (Rect.unit ![o, 0] ![1024, 1024] h)) (iblk m c 3 t)
      (iblk m c 4 t) (iblk m c 1 t) (iblk m c 2 t)
      (Scalar.addi (Scalar.muli (BitVec.ofNat 32 (grid0.coords t 0).val) 4096#32) (BitVec.ofNat 32 o)) (ix2 b k)
      = ∑ r, weight m c b (token (pt t) j r) * feat m c (token (pt t) j r) k := by
  rw [pool_at _ _ _ _ _ _ b k (fun r => (token (pt t) j r).val) (fun r => by have := (token (pt t) j r).isLt; omega)
    (chunk_word t j o ho)]
  refine Finset.sum_congr rfl fun r _ => ?_
  rw [chunk_score m c t j o ho h r, chunk_row m c t j o ho h r k]
  unfold weight cu
  rw [← lo_at m c t b, ← hi_at m c t b]

/-! ## One point -/

/-- What point `t` adds to the pooled rows. -/
def poolTerm (c : Dev nD) (t : Fin cfg0.N) (i : S16x1024.Idx) : EReal :=
  ∑ j : Fin 4, ∑ r, weight m c (i 0) (token (pt t) j r) * feat m c (token (pt t) j r) (i 1)

/-- What point `t` adds to the masses. -/
def massTerm (c : Dev nD) (t : Fin cfg0.N) (i : S16x1.Idx) : EReal :=
  ∑ j : Fin 4, ∑ r, weight m c (i 0) (token (pt t) j r)

/-- The four sub-blocks of point `t` together, for the pooled rows. -/
theorem pool_sum (c : Dev nD) (t : Fin cfg0.N)
    (h0 : ∀ a : Fin 2, (![0, 0] : Fin 2 → Nat) a + (![1024, 1024] : Fin 2 → Nat) a ≤ S4096x1024.size a)
    (h1 : ∀ a : Fin 2, (![1024, 0] : Fin 2 → Nat) a + (![1024, 1024] : Fin 2 → Nat) a ≤ S4096x1024.size a)
    (h2 : ∀ a : Fin 2, (![2048, 0] : Fin 2 → Nat) a + (![1024, 1024] : Fin 2 → Nat) a ≤ S4096x1024.size a)
    (h3 : ∀ a : Fin 2, (![3072, 0] : Fin 2 → Nat) a + (![1024, 1024] : Fin 2 → Nat) a ≤ S4096x1024.size a) (i : S16x1024.Idx) :
    pool (View.ld (show Vec Ideal S4096x1024 .f32 from iblk m c 0 t) (Rect.unit ![0, 0] ![1024, 1024] h0)) (iblk m c 3 t)
        (iblk m c 4 t) (iblk m c 1 t) (iblk m c 2 t)
        (Scalar.addi (Scalar.muli (BitVec.ofNat 32 (grid0.coords t 0).val) 4096#32) 0#32) i
      + pool (View.ld (show Vec Ideal S4096x1024 .f32 from iblk m c 0 t) (Rect.unit ![1024, 0] ![1024, 1024] h1)) (iblk m c 3 t)
        (iblk m c 4 t) (iblk m c 1 t) (iblk m c 2 t)
        (Scalar.addi (Scalar.muli (BitVec.ofNat 32 (grid0.coords t 0).val) 4096#32) 1024#32) i
      + pool (View.ld (show Vec Ideal S4096x1024 .f32 from iblk m c 0 t) (Rect.unit ![2048, 0] ![1024, 1024] h2)) (iblk m c 3 t)
        (iblk m c 4 t) (iblk m c 1 t) (iblk m c 2 t)
        (Scalar.addi (Scalar.muli (BitVec.ofNat 32 (grid0.coords t 0).val) 4096#32) 2048#32) i
      + pool (View.ld (show Vec Ideal S4096x1024 .f32 from iblk m c 0 t) (Rect.unit ![3072, 0] ![1024, 1024] h3)) (iblk m c 3 t)
        (iblk m c 4 t) (iblk m c 1 t) (iblk m c 2 t)
        (Scalar.addi (Scalar.muli (BitVec.ofNat 32 (grid0.coords t 0).val) 4096#32) 3072#32) i
      = poolTerm m c t i := by
  obtain ⟨b, k, rfl⟩ : ∃ (b : Fin 16) (k : Fin 1024), i = ix2 b k := ⟨i 0, i 1, eq_ix2 i⟩
  rw [chunk_pool m c t 0 0 rfl h0, chunk_pool m c t 1 1024 rfl h1, chunk_pool m c t 2 2048 rfl h2,
    chunk_pool m c t 3 3072 rfl h3, poolTerm, Fin.sum_univ_four]
  rfl

/-- The four sub-blocks of point `t` together, for the masses. -/
theorem mass_sum (c : Dev nD) (t : Fin cfg0.N)
    (h0 : ∀ a : Fin 2, (![0, 0] : Fin 2 → Nat) a + (![1024, 1024] : Fin 2 → Nat) a ≤ S4096x1024.size a)
    (h1 : ∀ a : Fin 2, (![1024, 0] : Fin 2 → Nat) a + (![1024, 1024] : Fin 2 → Nat) a ≤ S4096x1024.size a)
    (h2 : ∀ a : Fin 2, (![2048, 0] : Fin 2 → Nat) a + (![1024, 1024] : Fin 2 → Nat) a ≤ S4096x1024.size a)
    (h3 : ∀ a : Fin 2, (![3072, 0] : Fin 2 → Nat) a + (![1024, 1024] : Fin 2 → Nat) a ≤ S4096x1024.size a) (i : S16x1.Idx) :
    mass (View.ld (show Vec Ideal S4096x1024 .f32 from iblk m c 0 t) (Rect.unit ![0, 0] ![1024, 1024] h0)) (iblk m c 3 t)
        (iblk m c 4 t) (iblk m c 1 t) (iblk m c 2 t)
        (Scalar.addi (Scalar.muli (BitVec.ofNat 32 (grid0.coords t 0).val) 4096#32) 0#32) i
      + mass (View.ld (show Vec Ideal S4096x1024 .f32 from iblk m c 0 t) (Rect.unit ![1024, 0] ![1024, 1024] h1)) (iblk m c 3 t)
        (iblk m c 4 t) (iblk m c 1 t) (iblk m c 2 t)
        (Scalar.addi (Scalar.muli (BitVec.ofNat 32 (grid0.coords t 0).val) 4096#32) 1024#32) i
      + mass (View.ld (show Vec Ideal S4096x1024 .f32 from iblk m c 0 t) (Rect.unit ![2048, 0] ![1024, 1024] h2)) (iblk m c 3 t)
        (iblk m c 4 t) (iblk m c 1 t) (iblk m c 2 t)
        (Scalar.addi (Scalar.muli (BitVec.ofNat 32 (grid0.coords t 0).val) 4096#32) 2048#32) i
      + mass (View.ld (show Vec Ideal S4096x1024 .f32 from iblk m c 0 t) (Rect.unit ![3072, 0] ![1024, 1024] h3)) (iblk m c 3 t)
        (iblk m c 4 t) (iblk m c 1 t) (iblk m c 2 t)
        (Scalar.addi (Scalar.muli (BitVec.ofNat 32 (grid0.coords t 0).val) 4096#32) 3072#32) i
      = massTerm m c t i := by
  obtain ⟨b, z, rfl⟩ : ∃ (b : Fin 16) (z : Fin 1), i = ix2 b z := ⟨i 0, i 1, eq_ix2 i⟩
  obtain rfl : z = 0 := Subsingleton.elim _ _
  rw [chunk_mass m c t 0 0 rfl h0, chunk_mass m c t 1 1024 rfl h1, chunk_mass m c t 2 2048 rfl h2,
    chunk_mass m c t 3 3072 rfl h3, massTerm, Fin.sum_univ_four]
  rfl

/-! ## The accumulators, point by point -/

/-- The stored zeros of the first point. -/
theorem zero_pool (i : S16x1024.Idx) : k0_pay4 (F := Ideal) i = (0 : EReal) := by
  unfold k0_pay4
  pointwise

/-- The stored zeros of the first point, for the masses. -/
theorem zero_mass (i : S16x1.Idx) : k0_pay5 (F := Ideal) i = (0 : EReal) := by
  unfold k0_pay5
  pointwise

/-- The first point leaves its own contribution in the pooled rows. -/
theorem acc_reset (c : Dev nD) (t : Fin cfg0.N) (h0 : t.val % 8 = 0) (i : S16x1024.Idx) :
    (outsAt0 m c t.val t.isLt).2.1 i = 0 + poolTerm m c t i := by
  rw [outsAt0_A m c t h0 (by omega)]
  frame_out
  rw [acc_step, pool_sum, zero_pool]

/-- Every later point adds its contribution to the pooled rows. -/
theorem acc_next (c : Dev nD) (t : Fin cfg0.N) (h0 : ¬t.val % 8 = 0) (i : S16x1024.Idx) :
    (outsAt0 m c t.val t.isLt).2.1 i
      = (outsAt0 m c (t.val - 1) (Nat.lt_of_le_of_lt (Nat.sub_le _ _) t.isLt)).2.1 i + poolTerm m c t i := by
  by_cases h1 : t.val % 8 = 7
  · rw [outsAt0_C m c t h0 h1]
    frame_out
    rw [acc_step, pool_sum, read_unread_whole]
  · rw [outsAt0_B m c t h0 h1]
    frame_out
    rw [acc_step, pool_sum, read_unread_whole]

/-- The first point leaves its own contribution in the masses. -/
theorem den_reset (c : Dev nD) (t : Fin cfg0.N) (h0 : t.val % 8 = 0) (i : S16x1.Idx) :
    (outsAt0 m c t.val t.isLt).2.2 i = 0 + massTerm m c t i := by
  rw [outsAt0_A m c t h0 (by omega)]
  frame_out
  rw [den_step, mass_sum, zero_mass]

/-- Every later point adds its contribution to the masses. -/
theorem den_next (c : Dev nD) (t : Fin cfg0.N) (h0 : ¬t.val % 8 = 0) (i : S16x1.Idx) :
    (outsAt0 m c t.val t.isLt).2.2 i
      = (outsAt0 m c (t.val - 1) (Nat.lt_of_le_of_lt (Nat.sub_le _ _) t.isLt)).2.2 i + massTerm m c t i := by
  by_cases h1 : t.val % 8 = 7
  · rw [outsAt0_C m c t h0 h1]
    frame_out
    rw [den_step, mass_sum, read_unread_whole]
  · rw [outsAt0_B m c t h0 h1]
    frame_out
    rw [den_step, mass_sum, read_unread_whole]

/-! ## After the last point -/

/-- A sum over points of sums over sub-blocks and rows is a sum over the tokens. -/
theorem sum_points (f : Fin 32768 → EReal) : ∑ t : Fin cfg0.N, ∑ j : Fin 4, ∑ r, f (token (pt t) j r) = ∑ n, f n := by
  rw [← sum_tokens f]
  exact Fintype.sum_equiv (finCongr N_0) _ _ fun _ => rfl

/-- The pooled rows after the last point: for each bag, the weighted sum of the feature rows of all tokens. -/
theorem acc_last (c : Dev nD) (b : Fin 16) (k : Fin 1024) :
    (outsAt0 m c t0_7.val t0_7.isLt).2.1 (ix2 b k) = ∑ n, weight m c b n * feat m c n k := by
  rw [Pipeline.eq_sum_fin_of_reset_step_apply_last (fun n h => (outsAt0 m c n h).2.1) 8 (fun _ => (0 : EReal))
    (poolTerm m c) (acc_reset m c) (acc_next m c) (le_of_eq N_0) t0_7 rfl (ix2 b k), zero_add]
  exact sum_points fun n => weight m c b n * feat m c n k

/-- The masses after the last point: for each bag, the sum of the weights of all tokens. -/
theorem den_last (c : Dev nD) (b : Fin 16) :
    (outsAt0 m c t0_7.val t0_7.isLt).2.2 (ix2 b 0) = ∑ n, weight m c b n := by
  rw [Pipeline.eq_sum_fin_of_reset_step_apply_last (fun n h => (outsAt0 m c n h).2.2) 8 (fun _ => (0 : EReal))
    (massTerm m c) (den_reset m c) (den_next m c) (le_of_eq N_0) t0_7 rfl (ix2 b 0), zero_add]
  exact sum_points fun n => weight m c b n

/-- The last point's division and bias, at an index. -/
theorem out_at (acc : Vec Ideal S16x1024 .f32) (wc : Vec Ideal S1024x4 .f32) (den : Vec Ideal S16x1 .f32)
    (bc : Vec Ideal S1x4 .f32) (b : Fin 16) (q : Fin 4) :
    k0_pay3 acc wc den bc (ix2 b q)
      = Ideal.div (∑ k, acc (ix2 b k) * wc (ix2 k q)) (den (ix2 b 0)) + bc (ix2 0 q) := by
  unfold k0_pay3
  pointwise

/-- What the last point leaves in the result's buffer, from the two accumulators it has just updated. -/
theorem out_last (c : Dev nD) (t : Fin cfg0.N) (h0 : ¬t.val % 8 = 0) (h1 : t.val % 8 = 7) (b : Fin 16) (q : Fin 4) :
    (outsAt0 m c t.val t.isLt).1 (ix2 b q)
      = Ideal.div (∑ k, (outsAt0 m c t.val t.isLt).2.1 (ix2 b k)
          * (show FVec Ideal S1024x4 .f32 from m ((c : Thread nD τ).loc main_arg5)) (ix2 k q))
          ((outsAt0 m c t.val t.isLt).2.2 (ix2 b 0))
        + (show FVec Ideal S4 .f32 from m ((c : Thread nD τ).loc main_arg6)) (ix1 q) := by
  simp only [acc_next m c t h0, den_next m c t h0]
  rw [outsAt0_C m c t h0 h1]
  frame_out
  rw [out_at]
  simp only [acc_step, den_step, pool_sum, mass_sum, read_unread_whole]
  exact congrArg₂ (· + ·) (congrArg (Ideal.div · _) (Finset.sum_congr rfl fun k _ => congrArg (_ * ·) (wc_at m c t k q)))
    (bc_at m c t q)

/-- The kernel's result: for each bag and class, the pooled rows contracted with the classifier, divided by the mass of
    the bag, plus the bias. -/
theorem kernel_value (c : Dev nD) (b : Fin 16) (q : Fin 4) :
    (show FVec Ideal S16x4 .f32 from G7 m c) (ix2 b q)
      = Ideal.div (∑ k, (∑ n, weight m c b n * feat m c n k)
          * (show FVec Ideal S1024x4 .f32 from m ((c : Thread nD τ).loc main_arg5)) (ix2 k q)) (∑ n, weight m c b n)
        + (show FVec Ideal S4 .f32 from m ((c : Thread nD τ).loc main_arg6)) (ix1 q) := by
  have h : (dats m 0 c).arrAt 7 cfg0.N = (outsAt0 m c t0_7.val t0_7.isLt).1 := by
    refine (dats m 0 c).arrAt_eq_of_after_last 7 t0_7 (by decide +kernel) _ fun j => ?_
    blk_simp
    rw [after0_7]
  refine (congrFun ((final7 m c).symm.trans h) (ix2 b q)).trans ((out_last m c t0_7 (by decide) (by decide) b q).trans ?_)
  simp only [acc_last, den_last]

end Cert.KernelIdeal.Value

end
-- ==== Proof.Reference.lean ====
/-
  The reference stage by stage, as the printed program composes its operations, and each stage read at an index.
-/
module

public import proofs.«01_k».proof.Proof.Gen.ReferenceIdeal.Run
public import proofs.«01_k».proof.Proof.Tokens
public import Idealize.ShloMosaic.Lib.Pipeline.ValueKit
public import Idealize.ShloMosaic.Lib.Routing.OpsSet
public import Idealize.ShloMosaic.Lib.Routing.Count

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Arith

/-! ## The stages -/

/-- The bag number of every token: how many bags end at or before it. -/
def seg (cu : IVec S17 32) : IVec S32768 32 :=
  Host.reduce IntOp.addi (extui 32 (cmpi .sle
    (broadcastInDim S32768x16 ![0, 1] bcast_S1x16_S32768x16_0_1 (broadcastInDim S1x16 ![1] bcast_S16_S1x16_1
      (extractStridedSlice S16 ![1] cu slices_S17_S16_1)))
    (broadcastInDim S32768x16 ![0, 1] bcast_S32768x1_S32768x16_0_1
      (broadcastInDim S32768x1 ![0] bcast_S32768_S32768x1_0 (iotaInDim S32768 32 0)))) natLt_1_32)
    (constantI S_ 32 0#32) reducesTo_S32768x16_S32768_d1 h_S_

/-- The score of every token. -/
def sco (x : FVec Ideal S32768x1024 .f32) (wv wu : FVec Ideal S1024x256 .f32) (a : FVec Ideal S256x1 .f32) : FVec Ideal S32768 .f32 :=
  shapeCast _ (Host.dotGeneral dot_S32768x256_S256x1_S32768x1_1_0_0_1_n_n none
    (mulf (Host.tanh (Host.dotGeneral dot_S32768x1024_S1024x256_S32768x256_1_0_0_1_n_n none x wv))
      (Host.divf (broadcastInDim S32768x256 ![] bcast_S_S32768x256 (constant S_ .f32 0x3F800000#32))
        (addf (broadcastInDim S32768x256 ![] bcast_S_S32768x256 (constant S_ .f32 0x3F800000#32))
          (Host.exp (Host.negf (Host.dotGeneral dot_S32768x1024_S1024x256_S32768x256_1_0_0_1_n_n none x wu)))))) a)
    shapeCasts_S32768x1_S32768

/-- A vector over the tokens as a column. -/
def col {α : Type} (v : S32768.Idx → α) : S32768x1.Idx → α := broadcastInDim S32768x1 ![0] bcast_S32768_S32768x1_0 v

/-- The largest score of every bag, minus infinity for a bag without tokens. -/
def bagMax (g : IVec S32768 32) (s : FVec Ideal S32768 .f32) : FVec Ideal S16 .f32 :=
  Host.reduce FloatOps.maximumf (select (cmpi .eq (broadcastInDim S32768x16 ![0, 1] bcast_S32768x1_S32768x16_0_1 (col g))
      (broadcastInDim S32768x16 ![0, 1] bcast_S1x16_S32768x16_0_1 (broadcastInDim S1x16 ![1] bcast_S16_S1x16_1 (iotaInDim S16 32 0))))
    (broadcastInDim S32768x16 ![0, 1] bcast_S32768x1_S32768x16_0_1 (col s))
    (broadcastInDim S32768x16 ![] bcast_S_S32768x16 (id (constant S_ .f32 0xFF800000#32))))
    (constant S_ .f32 0xFF800000#32) reducesTo_S32768x16_S16_d0 h_S_

/-- The bag number as an index into the bags: a negative number counts from the end. -/
def wrap (g : IVec S32768 32) : IVec S32768 32 :=
  select (cmpi .slt g (broadcastInDim S32768 ![] bcast_S_S32768 (constantI S_ 32 0#32)))
    (addi g (broadcastInDim S32768 ![] bcast_S_S32768 (constantI S_ 32 16#32))) g

/-- One value for every token, taken from its bag. -/
def take (v : FVec Ideal S16 .f32) (g : IVec S32768 32) : FVec Ideal S32768 .f32 :=
  Host.gather gather_S16_S32768x1_S32768_n_0_n_n_0_1_1 v (col (wrap g))

/-- The exponential of every token's score less its bag's largest. -/
def shifted (g : IVec S32768 32) (s : FVec Ideal S32768 .f32) : FVec Ideal S32768 .f32 :=
  Host.exp (subf s (take (bagMax g s) g))

/-- The sum of a vector over the tokens of every bag. -/
def bagSum (g : IVec S32768 32) (e : FVec Ideal S32768 .f32) : FVec Ideal S16 .f32 :=
  Host.scatterAdd scatter_S16_S32768x1_S32768_n_0_0_1 (broadcastInDim S16 ![] bcast_S_S16 (constant S_ .f32 0x00000000#32))
    (col g) e

/-- The attention of every token in its bag. -/
def attn (g : IVec S32768 32) (e : FVec Ideal S32768 .f32) : FVec Ideal S32768 .f32 := Host.divf e (take (bagSum g e) g)

/-- The feature rows times the attention, summed over the tokens of every bag. -/
def pooled (g : IVec S32768 32) (x : FVec Ideal S32768x1024 .f32) (a : FVec Ideal S32768 .f32) : FVec Ideal S16x1024 .f32 :=
  Host.scatterAdd scatter_S16x1024_S32768x1_S32768x1024_1_0_0_1
    (broadcastInDim S16x1024 ![] bcast_S_S16x1024 (constant S_ .f32 0x00000000#32)) (col g)
    (mulf x (broadcastInDim S32768x1024 ![0, 1] bcast_S32768x1_S32768x1024_0_1 (col a)))

/-- The classifier. -/
def logits (p : FVec Ideal S16x1024 .f32) (wc : FVec Ideal S1024x4 .f32) (bc : FVec Ideal S4 .f32) : FVec Ideal S16x4 .f32 :=
  addf (Host.dotGeneral dot_S16x1024_S1024x4_S16x4_1_0_0_1_n_n none p wc)
    (broadcastInDim S16x4 ![0, 1] bcast_S1x4_S16x4_0_1 (broadcastInDim S1x4 ![1] bcast_S4_S1x4_1 bc))

/-- The whole reference. -/
def refOut (x : FVec Ideal S32768x1024 .f32) (cu : IVec S17 32) (wv wu : FVec Ideal S1024x256 .f32) (a : FVec Ideal S256x1 .f32)
    (wc : FVec Ideal S1024x4 .f32) (bc : FVec Ideal S4 .f32) : FVec Ideal S16x4 .f32 :=
  logits (pooled (seg cu) x (attn (seg cu) (shifted (seg cu) (sco x wv wu a)))) wc bc

/-- The printed program's result is the composition of the stages. -/
theorem res_eq (m : (ℓ : Loc nD τ sig) → Buf (Elt Ideal) ℓ) (c : Dev nD) :
    res_main_v59 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-! ## Each stage at an index -/

/-- The score of a token, from its own features: the reference's spelling of the gate is the logistic function's. -/
theorem sco_at (x : FVec Ideal S32768x1024 .f32) (wv wu : FVec Ideal S1024x256 .f32) (a : FVec Ideal S256x1 .f32) (n : Fin 32768) :
    sco x wv wu a (ix1 n)
      = tokenScore (fun k => x (ix2 n k)) (fun k h => wv (ix2 k h)) (fun k h => wu (ix2 k h)) (fun h => a (ix2 h 0)) := by
  unfold sco
  pointwise
  rfl

/-- The classifier at an index. -/
theorem logits_at (p : FVec Ideal S16x1024 .f32) (wc : FVec Ideal S1024x4 .f32) (bc : FVec Ideal S4 .f32) (b : Fin 16) (q : Fin 4) :
    logits p wc bc (ix2 b q) = (∑ k, p (ix2 b k) * wc (ix2 k q)) + bc (ix1 q) := by
  unfold logits
  pointwise

/-- A column at an index. -/
theorem col_at {α : Type} (v : S32768.Idx → α) (n : Fin 32768) : col v (ix2 n 0) = v (ix1 n) := by
  unfold col
  pointwise

/-- Bag `j` ends at or before token `n`. -/
def EndsBy (cu : IVec S17 32) (n : Fin 32768) (j : ℕ) : Prop :=
  ∃ h : j < 16, (cu (ix1 ⟨1 + j, by omega⟩)).toInt ≤ (n.val : ℤ)

instance (cu : IVec S17 32) (n : Fin 32768) : DecidablePred (EndsBy cu n) := fun j => by
  unfold EndsBy
  infer_instance

/-- The bag number of a token is the number of bags that end at or before it. -/
theorem seg_at (cu : IVec S17 32) (n : Fin 32768) : seg cu (ix1 n) = BitVec.ofNat 32 (Nat.count (EndsBy cu n) 16) := by
  unfold seg
  refine Routing.reduce_count (n := 32768) (m := 16) (by norm_num) _ _ _ _ n _ fun q => ?_
  pointwise
  show IntOp.cmpi CmpIPredicate.sle (cu (ix1 ⟨1 + q.val, by omega⟩)) (BitVec.ofNat 32 n.val) = 1#1 ↔ _
  simp only [IntOp.cmpi, BitVec.sle, toInt_token n.val (by omega), EndsBy, q.isLt, exists_true_left]
  by_cases h : (cu (ix1 ⟨1 + q.val, by omega⟩)).toInt ≤ (n.val : ℤ) <;> simp [h]

/-- The maximum over the rows of a table, from minus infinity, column by column. -/
theorem maxRows_at (v : FVec Ideal S32768x16 .f32) (b : Fin 16) :
    Host.reduce FloatOps.maximumf v (constant S_ .f32 0xFF800000#32) reducesTo_S32768x16_S16_d0 h_S_ (ix1 b)
      = (Finset.univ : Finset (Fin 32768)).fold max (⊥ : EReal) (fun n => v (ix2 n b)) := by
  have hr : S32768x16.Reduces [0] S16 := by decide
  have h : hr.lift (ix1 b) = fun n : Fin 32768 => ix2 n b := by
    funext n a
    match a with
    | ⟨0, _⟩ => rfl
    | ⟨1, _⟩ => rfl
  rw [Host.reduce_eq_fold_single _ _ _ _ hr, h]
  show (Finset.univ : Finset (Fin 32768)).fold max (Ideal.ofBits .f32 0xFF800000#32) _ = _
  rw [lit_bot]
  rfl

/-- The largest score of a bag. -/
theorem bagMax_at (g : IVec S32768 32) (s : FVec Ideal S32768 .f32) (b : Fin 16) :
    bagMax g s (ix1 b)
      = (Finset.univ : Finset (Fin 32768)).fold max (⊥ : EReal) (fun n => if g (ix1 n) = BitVec.ofNat 32 b.val then s (ix1 n) else ⊥) := by
  unfold bagMax col
  rw [maxRows_at]
  refine Finset.fold_congr fun n _ => ?_
  pointwise
  show Scalar.select _ _ (Ideal.ofBits .f32 0xFF800000#32) = _
  rw [lit_bot]
  by_cases h : g (ix1 n) = BitVec.ofNat 32 b.val
  · rw [if_pos h]
    exact if_pos (congrArg BitVec.ofBool (beq_iff_eq.2 h))
  · rw [if_neg h]
    exact if_neg fun h1 => absurd ((congrArg BitVec.ofBool (beq_eq_false_iff_ne.2 h)).symm.trans h1) (by decide)

/-- A number below the number of bags is its own index. -/
theorem wrap_at (g : IVec S32768 32) (n : Fin 32768) (b : Fin 16) (h : g (ix1 n) = BitVec.ofNat 32 b.val) :
    wrap g (ix1 n) = BitVec.ofNat 32 b.val := by
  unfold wrap
  pointwise
  rw [Routing.wrap_of_lt _ _ (by rw [h, BitVec.toNat_ofNat]; have := b.isLt; omega), h]

/-- A token of bag `b` takes the value of bag `b`. -/
theorem take_at (v : FVec Ideal S16 .f32) (g : IVec S32768 32) (n : Fin 32768) (b : Fin 16) (h : g (ix1 n) = BitVec.ofNat 32 b.val) :
    take v g (ix1 n) = v (ix1 b) := by
  unfold take
  exact Routing.gather_take1 (N := 16) (n := 32768) _ rfl rfl rfl rfl v _ n b ((col_at (wrap g) n).trans (wrap_at g n b h)) (by norm_num)

/-- The shifted exponential of a token of bag `b`. -/
theorem shifted_at (g : IVec S32768 32) (s : FVec Ideal S32768 .f32) (n : Fin 32768) (b : Fin 16) (h : g (ix1 n) = BitVec.ofNat 32 b.val) :
    shifted g s (ix1 n) = Ideal.exp (s (ix1 n) - bagMax g s (ix1 b)) := by
  rw [← take_at (bagMax g s) g n b h]
  rfl

/-- The attention of a token of bag `b`. -/
theorem attn_at (g : IVec S32768 32) (e : FVec Ideal S32768 .f32) (n : Fin 32768) (b : Fin 16) (h : g (ix1 n) = BitVec.ofNat 32 b.val) :
    attn g e (ix1 n) = Ideal.div (e (ix1 n)) (bagSum g e (ix1 b)) := by
  unfold attn
  pointwise
  rw [take_at (bagSum g e) g n b h]

/-- A bag number read signed. -/
theorem toInt_bag (w : BitVec 32) (b : Fin 16) : w.toInt = (b.val : ℤ) ↔ w = BitVec.ofNat 32 b.val := by
  rw [← toInt_token b.val (by have := b.isLt; omega)]
  exact BitVec.toInt_inj

/-- The sum over a bag adds up the entries of its tokens. -/
theorem bagSum_at (g : IVec S32768 32) (e : FVec Ideal S32768 .f32) (b : Fin 16) :
    bagSum g e (ix1 b) = ∑ n with g (ix1 n) = BitVec.ofNat 32 b.val, e (ix1 n) := by
  have hs : ∀ n : Fin 32768, scatter_S16_S32768x1_S32768_n_0_0_1.start (ix1 n) (col g) 0 = (g (ix1 n)).toInt := fun n => by
    rw [← col_at g n]
    unfold ScatterDims.start
    rw [dif_pos (by decide)]
    refine congrArg (fun i => (col g i).toInt) (funext fun a => ?_)
    match a with
    | ⟨0, _⟩ => rfl
    | ⟨1, _⟩ => rfl
  have hw : ∀ n : Fin 32768, scatter_S16_S32768x1_S32768_n_0_0_1.window (ix1 n) 0 = 0 := fun n => rfl
  have hl : ∀ n : Fin 32768, scatter_S16_S32768x1_S32768_n_0_0_1.resultIdx? (ix1 n) (col g) = some (ix1 b)
      ↔ g (ix1 n) = BitVec.ofNat 32 b.val := fun n => by
    rw [← toInt_bag]
    refine (Routing.resultIdx?_ix1 (N := 16) _ _ _ b).trans ?_
    rw [hs, hw, Nat.cast_zero, add_zero]
  show Ideal.hostScatterAdd _ _ _ _ _ = _
  unfold Ideal.hostScatterAdd
  have hz : broadcastInDim S16 ![] bcast_S_S16 (constant (F := Ideal) S_ FTy.f32 0#32) (ix1 b) = (0 : EReal) := by pointwise
  rw [hz, zero_add]
  refine Finset.sum_nbij' (fun j => j 0) (fun n => ix1 n) (fun j hj => ?_) (fun n hn => ?_) (fun j _ => (eq_ix1 j).symm)
    (fun n _ => rfl) (fun j _ => congrArg e (eq_ix1 j))
  · obtain ⟨n, rfl⟩ : ∃ n : Fin 32768, j = ix1 n := ⟨j 0, eq_ix1 j⟩
    exact Finset.mem_filter.2 ⟨Finset.mem_univ _, (hl n).1 (Finset.mem_filter.1 hj).2⟩
  · exact Finset.mem_filter.2 ⟨Finset.mem_univ _, (hl n).2 (Finset.mem_filter.1 hn).2⟩

/-- The pooled rows of a bag add up the rows of its tokens, each times its attention. -/
theorem pooled_at (g : IVec S32768 32) (x : FVec Ideal S32768x1024 .f32) (a : FVec Ideal S32768 .f32) (b : Fin 16) (k : Fin 1024) :
    pooled g x a (ix2 b k) = ∑ n with g (ix1 n) = BitVec.ofNat 32 b.val, x (ix2 n k) * a (ix1 n) := by
  have hs0 : ∀ (n : Fin 32768) (q : Fin 1024),
      scatter_S16x1024_S32768x1_S32768x1024_1_0_0_1.start (ix2 n q) (col g) 0 = (g (ix1 n)).toInt := fun n q => by
    rw [← col_at g n]
    unfold ScatterDims.start
    rw [dif_pos (by decide)]
    refine congrArg (fun i => (col g i).toInt) (funext fun a => ?_)
    match a with
    | ⟨0, _⟩ => rfl
    | ⟨1, _⟩ => rfl
  have hs1 : ∀ (n : Fin 32768) (q : Fin 1024), scatter_S16x1024_S32768x1_S32768x1024_1_0_0_1.start (ix2 n q) (col g) 1 = 0 :=
    fun n q => by
      unfold ScatterDims.start
      rw [dif_neg (by decide)]
  have hw0 : ∀ (n : Fin 32768) (q : Fin 1024), scatter_S16x1024_S32768x1_S32768x1024_1_0_0_1.window (ix2 n q) 0 = 0 := fun n q => rfl
  have hw1 : ∀ (n : Fin 32768) (q : Fin 1024), scatter_S16x1024_S32768x1_S32768x1024_1_0_0_1.window (ix2 n q) 1 = q.val := fun n q => rfl
  have hl : ∀ (n : Fin 32768) (q : Fin 1024),
      scatter_S16x1024_S32768x1_S32768x1024_1_0_0_1.resultIdx? (ix2 n q) (col g) = some (ix2 b k)
        ↔ g (ix1 n) = BitVec.ofNat 32 b.val ∧ q = k := fun n q => by
    rw [← toInt_bag]
    refine (Routing.resultIdx?_ix2 (R := 16) (C := 1024) _ _ _ b k).trans ?_
    rw [hs0, hw0, hs1, hw1, Nat.cast_zero, add_zero, zero_add, Nat.cast_inj, Fin.val_inj]
  unfold pooled
  show Ideal.hostScatterAdd _ _ _ _ _ = _
  unfold Ideal.hostScatterAdd
  have hz : broadcastInDim S16x1024 ![] bcast_S_S16x1024 (constant (F := Ideal) S_ FTy.f32 0#32) (ix2 b k) = (0 : EReal) := by
    pointwise
  rw [hz, zero_add]
  have hx : ∀ (n : Fin 32768) (q : Fin 1024), mulf x (broadcastInDim S32768x1024 ![0, 1] bcast_S32768x1_S32768x1024_0_1 (col a)) (ix2 n q)
      = x (ix2 n q) * a (ix1 n) := fun n q => by
    unfold col
    pointwise
  have hj : ∀ j : S32768x1024.Idx, scatter_S16x1024_S32768x1_S32768x1024_1_0_0_1.resultIdx? j (col g) = some (ix2 b k) →
      ∃ n : Fin 32768, j = ix2 n k ∧ g (ix1 n) = BitVec.ofNat 32 b.val := fun j h => by
    obtain ⟨n, q, rfl⟩ : ∃ (n : Fin 32768) (q : Fin 1024), j = ix2 n q := ⟨j 0, j 1, eq_ix2 j⟩
    obtain ⟨h1, rfl⟩ := (hl n q).1 h
    exact ⟨n, rfl, h1⟩
  refine Finset.sum_nbij' (fun j => j 0) (fun n => ix2 n k) (fun j h => ?_) (fun n hn => ?_) (fun j h => ?_)
    (fun n _ => rfl) (fun j h => ?_)
  · obtain ⟨n, rfl, h1⟩ := hj j (Finset.mem_filter.1 h).2
    exact Finset.mem_filter.2 ⟨Finset.mem_univ _, h1⟩
  · exact Finset.mem_filter.2 ⟨Finset.mem_univ _, (hl n k).2 ⟨(Finset.mem_filter.1 hn).2, rfl⟩⟩
  · obtain ⟨n, rfl, h1⟩ := hj j (Finset.mem_filter.1 h).2
    rfl
  · obtain ⟨n, rfl, h1⟩ := hj j (Finset.mem_filter.1 h).2
    exact hx n k

/-- The reference's result at an index: over the tokens of bag `b`, the rows times the shifted, normalised weights, pooled and
    contracted with the classifier, plus the bias. -/
theorem refOut_at (x : FVec Ideal S32768x1024 .f32) (cu : IVec S17 32) (wv wu : FVec Ideal S1024x256 .f32)
    (a : FVec Ideal S256x1 .f32) (wc : FVec Ideal S1024x4 .f32) (bc : FVec Ideal S4 .f32) (b : Fin 16) (q : Fin 4) :
    refOut x cu wv wu a wc bc (ix2 b q)
      = (∑ k, (∑ n with seg cu (ix1 n) = BitVec.ofNat 32 b.val,
          x (ix2 n k) * Ideal.div
            (Ideal.exp (sco x wv wu a (ix1 n) - bagMax (seg cu) (sco x wv wu a) (ix1 b)))
            (∑ n with seg cu (ix1 n) = BitVec.ofNat 32 b.val,
              Ideal.exp (sco x wv wu a (ix1 n) - bagMax (seg cu) (sco x wv wu a) (ix1 b)))) * wc (ix2 k q)) + bc (ix1 q) := by
  have hsum : bagSum (seg cu) (shifted (seg cu) (sco x wv wu a)) (ix1 b)
      = ∑ n with seg cu (ix1 n) = BitVec.ofNat 32 b.val,
          Ideal.exp (sco x wv wu a (ix1 n) - bagMax (seg cu) (sco x wv wu a) (ix1 b)) := by
    rw [bagSum_at]
    exact Finset.sum_congr rfl fun n hn => shifted_at _ _ n b (Finset.mem_filter.1 hn).2
  unfold refOut
  rw [logits_at]
  refine congrArg (· + bc (ix1 q)) (Finset.sum_congr rfl fun k _ => congrArg (· * wc (ix2 k q)) ?_)
  rw [pooled_at]
  refine Finset.sum_congr rfl fun n hn => ?_
  have hb := (Finset.mem_filter.1 hn).2
  rw [attn_at _ _ n b hb, hsum, shifted_at _ _ n b hb]

end Cert.ReferenceIdeal.Value

end
-- ==== Proof.Bags.lean ====
/-
  What the precondition says of the offsets and the attention weights, and what follows for the bags: the reference's
  bag number of a token picks out the same tokens as the kernel's two comparisons, and every bag holds a token.
-/
module

public import proofs.«01_k».proof.Proof.Reference
public import proofs.«01_k».proof.Proof.Gen.Pre_bags_nonempty_weights_finite
public import Idealize.ShloMosaic.Lib.ReduceAll

@[expose] public section

set_option maxRecDepth 16384

noncomputable section

open Idealize.ShloMosaic Idealize.SL.Sem

namespace Cert.Bags

open Cert.Arith

/-- The offsets are as the precondition wants them: the first is zero, and each bag begins before the last token's end and
    before its own end. -/
structure Offsets (cu : IVec ⟨1, ![17]⟩ 32) : Prop where
  first : (cu (ix1 0)).toInt = 0
  rising : ∀ b : ℕ, ∀ h : b < 16, (cu (ix1 ⟨b, by omega⟩)).toInt < (cu (ix1 ⟨1 + b, by omega⟩)).toInt
  within : ∀ b : ℕ, ∀ h : b < 16, (cu (ix1 ⟨b, by omega⟩)).toInt < 32768

/-- An element whose absolute value is below infinity is a real. -/
theorem real_of_abs_lt (x : EReal) (h : max x (-x) < ⊤) : ∃ r : ℝ, x = (r : EReal) := by
  induction x with
  | bot => simp at h
  | top => simp at h
  | coe r => exact ⟨r, rfl⟩

/-- The bits of single-precision infinity denote the top element. -/
theorem lit_top : Ideal.ofBits .f32 0x7F800000#32 = (⊤ : EReal) := by
  simp [Ideal.ofBits, Ideal.ieee]

/-- The precondition read back: the offsets are as wanted, and the attention weights are reals. -/
theorem pre_reads (x : FVec Ideal Cert.Pre_bags_nonempty_weights_finite.S32768x1024 .f32)
    (cu : IVec Cert.Pre_bags_nonempty_weights_finite.S17 32)
    (wv wu : FVec Ideal Cert.Pre_bags_nonempty_weights_finite.S1024x256 .f32)
    (a : FVec Ideal Cert.Pre_bags_nonempty_weights_finite.S256x1 .f32)
    (wc : FVec Ideal Cert.Pre_bags_nonempty_weights_finite.S1024x4 .f32)
    (bc : FVec Ideal Cert.Pre_bags_nonempty_weights_finite.S4 .f32)
    (h : Cert.Pre_bags_nonempty_weights_finite.fn (F := Ideal) x cu wv wu a wc bc = fun _ => 1#1) :
    Offsets cu ∧ ∀ k : Fin 256, ∃ r : ℝ, a (ix2 k 0) = (r : EReal) := by
  have h0 := congrFun h (fun i => i.elim0)
  unfold Cert.Pre_bags_nonempty_weights_finite.fn at h0
  obtain ⟨h1, hw⟩ := IntOp.andi_eq_one.1 h0
  obtain ⟨hf, hb⟩ := IntOp.andi_eq_one.1 h1
  haveI : Subsingleton Cert.Pre_bags_nonempty_weights_finite.S_.Idx := ⟨fun i j => funext fun k => k.elim0⟩
  have hfirst : cu (ix1 0) = 0#32 := by
    have h2 := IntOp.cmpi_eq.1 hf
    refine Eq.trans ?_ h2
    pointwise
  have hbag : ∀ b : ℕ, ∀ h : b < 16, (cu (ix1 ⟨b, by omega⟩)).toInt < (IntOp.minsi (cu (ix1 ⟨1 + b, by omega⟩)) 32768#32).toInt := by
    intro b hlt
    have h2 := Host.reduce_andi_all _ _ _ _ _ hb (ix1 (⟨b, hlt⟩ : Fin 16))
    have h3 := IntOp.cmpi_slt.1 h2
    refine lt_of_eq_of_lt (congrArg BitVec.toInt ?_) (lt_of_lt_of_eq h3 (congrArg BitVec.toInt ?_))
    · pointwise
    · pointwise
  have hmin : ∀ b : ℕ, ∀ h : b < 16, (cu (ix1 ⟨b, by omega⟩)).toInt < (cu (ix1 ⟨1 + b, by omega⟩)).toInt
      ∧ (cu (ix1 ⟨b, by omega⟩)).toInt < 32768 := by
    intro b hlt
    have h2 := hbag b hlt
    have hN : (32768#32 : BitVec 32).toInt = 32768 := by decide
    unfold IntOp.minsi at h2
    split at h2
    · rename_i h3
      rw [BitVec.slt_iff_toInt_lt, hN] at h3
      omega
    · rename_i h3
      rw [BitVec.slt_iff_toInt_lt, hN] at h3
      rw [hN] at h2
      omega
  refine ⟨⟨by rw [hfirst]; decide, fun b h => (hmin b h).1, fun b h => (hmin b h).2⟩, fun k => ?_⟩
  have h2 := Host.reduce_andi_all _ _ _ _ _ hw (ix2 k (0 : Fin 1))
  refine real_of_abs_lt _ ?_
  pointwise at h2
  rw [lit_top, WordCmp.ofBool_eq_one_iff, decide_eq_true_iff] at h2
  exact h2

variable {cu : IVec ⟨1, ![17]⟩ 32}

/-- The offsets rise from each bag to every later one. -/
theorem Offsets.le_of_le (h : Offsets cu) (i : ℕ) : ∀ d : ℕ, ∀ hd : i + d < 17,
    (cu (ix1 ⟨i, by omega⟩)).toInt ≤ (cu (ix1 ⟨i + d, hd⟩)).toInt
  | 0, _ => le_refl _
  | d + 1, hd => by
    have h1 := h.le_of_le i d (by omega)
    have h2 := h.rising (i + d) (by omega)
    have e : (⟨1 + (i + d), by omega⟩ : Fin 17) = ⟨i + (d + 1), hd⟩ := Fin.ext (by show 1 + (i + d) = i + (d + 1); omega)
    rw [e] at h2
    omega

/-- A token has bag number `b` exactly when it lies between that bag's offsets. -/
theorem Offsets.seg_iff (h : Offsets cu) (b : Fin 16) (n : Fin 32768) :
    Cert.ReferenceIdeal.Value.seg cu (ix1 n) = BitVec.ofNat 32 b.val
      ↔ InBag (cu (ix1 ⟨b.val, by omega⟩)) (cu (ix1 ⟨1 + b.val, by omega⟩)) n.val := by
  have hdown : ∀ i j, i ≤ j → j < 16 → Cert.ReferenceIdeal.Value.EndsBy cu n j → Cert.ReferenceIdeal.Value.EndsBy cu n i := by
    intro i j hij hj ⟨_, he⟩
    refine ⟨by omega, ?_⟩
    have h1 := h.le_of_le (1 + i) (j - i) (by omega)
    have e : (⟨1 + i + (j - i), by omega⟩ : Fin 17) = ⟨1 + j, by omega⟩ := Fin.ext (by show 1 + i + (j - i) = 1 + j; omega)
    rw [e] at h1
    omega
  have hcount : ∀ r, r < 16 → (Cert.ReferenceIdeal.Value.EndsBy cu n r ↔ r < Nat.count (Cert.ReferenceIdeal.Value.EndsBy cu n) 16) :=
    fun r hr => Routing.lt_count_iff hdown hr
  have hle : Nat.count (Cert.ReferenceIdeal.Value.EndsBy cu n) 16 ≤ 16 := Nat.count_le _
  have hb := hcount b.val b.isLt
  have hhi : Cert.ReferenceIdeal.Value.EndsBy cu n b.val ↔ (cu (ix1 ⟨1 + b.val, by omega⟩)).toInt ≤ (n.val : ℤ) :=
    ⟨fun ⟨_, e⟩ => e, fun e => ⟨b.isLt, e⟩⟩
  have hlo : b.val ≤ Nat.count (Cert.ReferenceIdeal.Value.EndsBy cu n) 16 ↔ (cu (ix1 ⟨b.val, by omega⟩)).toInt ≤ (n.val : ℤ) := by
    rcases Nat.eq_zero_or_pos b.val with hz | hp
    · have e : (⟨b.val, by omega⟩ : Fin 17) = 0 := Fin.ext hz
      have h1 := h.first
      rw [e]
      omega
    · have h1 := hcount (b.val - 1) (by omega)
      have e : (⟨1 + (b.val - 1), by omega⟩ : Fin 17) = ⟨b.val, by omega⟩ := Fin.ext (by show 1 + (b.val - 1) = b.val; omega)
      have h2 : Cert.ReferenceIdeal.Value.EndsBy cu n (b.val - 1) ↔ (cu (ix1 ⟨b.val, by omega⟩)).toInt ≤ (n.val : ℤ) := by
        rw [← e]
        exact ⟨fun ⟨_, e⟩ => e, fun e => ⟨by omega, e⟩⟩
      rw [← h2, h1]
      omega
  rw [Cert.ReferenceIdeal.Value.seg_at]
  have hinj : (BitVec.ofNat 32 (Nat.count (Cert.ReferenceIdeal.Value.EndsBy cu n) 16) = BitVec.ofNat 32 b.val)
      ↔ Nat.count (Cert.ReferenceIdeal.Value.EndsBy cu n) 16 = b.val := by
    refine ⟨fun e => ?_, fun e => by rw [e]⟩
    have h1 := congrArg BitVec.toNat e
    rw [BitVec.toNat_ofNat, BitVec.toNat_ofNat, Nat.mod_eq_of_lt (by omega), Nat.mod_eq_of_lt (by omega)] at h1
    exact h1
  rw [hinj]
  constructor
  · intro e
    exact ⟨hlo.1 (by omega), not_le.1 fun h1 => by have := hb.1 (hhi.2 h1); omega⟩
  · intro ⟨h1, h2⟩
    have h3 := hlo.2 h1
    have h4 : ¬ b.val < Nat.count (Cert.ReferenceIdeal.Value.EndsBy cu n) 16 := fun h5 => by
      have := hhi.1 (hb.2 h5)
      omega
    omega

/-- Every bag holds a token: the one at its first offset. -/
theorem Offsets.nonempty (h : Offsets cu) (b : Fin 16) :
    ∃ n : Fin 32768, Cert.ReferenceIdeal.Value.seg cu (ix1 n) = BitVec.ofNat 32 b.val := by
  have h0 : (0 : ℤ) ≤ (cu (ix1 ⟨b.val, by omega⟩)).toInt := by
    have h1 := h.le_of_le 0 b.val (by omega)
    have e : (⟨0 + b.val, by omega⟩ : Fin 17) = ⟨b.val, by omega⟩ := Fin.ext (Nat.zero_add _)
    have h2 := h.first
    rw [e] at h1
    exact le_of_eq_of_le h2.symm h1
  have h1 := h.within b.val b.isLt
  have h2 := h.rising b.val b.isLt
  refine ⟨⟨(cu (ix1 ⟨b.val, by omega⟩)).toInt.toNat, by omega⟩, (h.seg_iff b _).2 ⟨?_, ?_⟩⟩
  · show _ ≤ (((cu (ix1 ⟨b.val, by omega⟩)).toInt.toNat : ℕ) : ℤ)
    omega
  · show (((cu (ix1 ⟨b.val, by omega⟩)).toInt.toNat : ℕ) : ℤ) < _
    omega

end Cert.Bags

end
-- ==== Proof.Equation.lean ====
/-
  The kernel's closed form and the reference's are the same array where the precondition holds.
-/
module

public import proofs.«01_k».proof.Proof.KernelValue
public import proofs.«01_k».proof.Proof.Bags

@[expose] public section

set_option maxRecDepth 16384

noncomputable section

open Idealize.ShloMosaic Idealize.ShloMosaic.TcCoe Idealize.SL.Sem

namespace Cert.Equation

open Cert.Arith Cert.Bags Cert.ReferenceIdeal.Value

/-- The reference's result, with the shift by the maximum cancelled and the division moved behind the classifier: over the
    tokens between a bag's offsets, the exponentials of the scores weigh the rows. -/
theorem reference_value (x : FVec Ideal Cert.ReferenceIdeal.S32768x1024 .f32) (cu : IVec Cert.ReferenceIdeal.S17 32)
    (wv wu : FVec Ideal Cert.ReferenceIdeal.S1024x256 .f32) (a : FVec Ideal Cert.ReferenceIdeal.S256x1 .f32)
    (wc : FVec Ideal Cert.ReferenceIdeal.S1024x4 .f32) (bc : FVec Ideal Cert.ReferenceIdeal.S4 .f32)
    (h : Offsets cu) (ha : ∀ j : Fin 256, ∃ r : ℝ, a (ix2 j 0) = (r : EReal)) (b : Fin 16) (q : Fin 4)
    (w : Fin 32768 → EReal)
    (hw : ∀ n, w n = if InBag (cu (ix1 ⟨b.val, by omega⟩)) (cu (ix1 ⟨1 + b.val, by omega⟩)) n.val then
      Ideal.exp (tokenScore (fun k => x (ix2 n k)) (fun k j => wv (ix2 k j)) (fun k j => wu (ix2 k j)) (fun j => a (ix2 j 0))) else 0) :
    refOut x cu wv wu a wc bc (ix2 b q)
      = Ideal.div (∑ k, (∑ n, w n * x (ix2 n k)) * wc (ix2 k q)) (∑ n, w n) + bc (ix1 q) := by
  choose s hs using fun n : Fin 32768 =>
    tokenScore_real (fun k => x (ix2 n k)) (fun k j => wv (ix2 k j)) (fun k j => wu (ix2 k j)) (fun j => a (ix2 j 0)) ha
  have hsco : ∀ n, sco x wv wu a (ix1 n) = (s n : EReal) := fun n => (sco_at x wv wu a n).trans (hs n)
  obtain ⟨M, hM⟩ := bag_max_real (fun n : Fin 32768 => seg cu (ix1 n) = BitVec.ofNat 32 b.val) s (h.nonempty b)
  have hmax : bagMax (seg cu) (sco x wv wu a) (ix1 b) = (M : EReal) := by
    rw [bagMax_at, ← hM]
    exact Finset.fold_congr fun n _ => by rw [hsco]
  have hp : ∀ n, w n = if seg cu (ix1 n) = BitVec.ofNat 32 b.val then Ideal.exp (s n : EReal) else 0 := fun n => by
    rw [hw, hs]
    exact if_congr (h.seg_iff b n).symm rfl rfl
  rw [refOut_at]
  simp only [hmax, hsco, hp]
  exact congrArg (· + bc (ix1 q))
    (pooled_eq (fun n : Fin 32768 => seg cu (ix1 n) = BitVec.ofNat 32 b.val) (h.nonempty b) s M
      (fun n k => x (ix2 n k)) (fun k => wc (ix2 k q))).symm

/-- The kernel's result array is the reference's, on arguments that meet the precondition. -/
theorem kernel_eq_reference
    (m : (ℓ : Loc Cert.KernelIdeal.nD Cert.KernelIdeal.τ Cert.KernelIdeal.sig) → Buf (Elt Ideal) ℓ)
    (c : Dev Cert.KernelIdeal.nD)
    (hpre : Cert.Pre_bags_nonempty_weights_finite.fn (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)) = fun _ => 1#1) :
    refOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      = (show FVec Ideal Cert.KernelIdeal.S16x4 .f32 from Cert.KernelIdeal.Value.G7 m c) := by
  obtain ⟨ho, ha⟩ := pre_reads _ _ _ _ _ _ _ hpre
  funext i
  obtain ⟨b, q, rfl⟩ : ∃ (b : Fin 16) (q : Fin 4), i = ix2 b q := ⟨i 0, i 1, eq_ix2 i⟩
  exact (reference_value _ _ _ _ _ _ _ ho ha b q (Cert.KernelIdeal.Value.weight m c b) fun n => rfl).trans
    (Cert.KernelIdeal.Value.kernel_value m c b q).symm

end Cert.Equation

end
-- ==== Proof.lean ====
/-
  The proof of `Cert.Claim`: the three frames and the preservation come from the generated runs, the value claim from
  the kernel's generated value run, the reference's generated run and the equation of Proof/Equation.lean.
-/
module

public import proofs.«01_k».proof.Defs
public import proofs.«01_k».proof.Proof.Gen.Kernel.Frame
public import proofs.«01_k».proof.Proof.Gen.KernelIdeal.Value
public import proofs.«01_k».proof.Proof.Gen.Pre_bags_nonempty_weights_finite
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to an end, keeps its arguments and leaves every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on arguments that meet the precondition. -/
theorem quiescent_ReferenceIdeal_pre : quiescent_ReferenceIdeal_pre_bags_nonempty_weights_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave the same result array, on arguments that meet the precondition. -/
theorem algebraic_KernelIdeal_ReferenceIdeal : algebraic_KernelIdeal_ReferenceIdeal_pre_bags_nonempty_weights_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6⟩ := hagree c
  refine (Cert.ReferenceIdeal.Value.res_eq m' c).trans ?_
  rw [h0, h1, h2, h3, h4, h5, h6]
  exact Cert.Equation.kernel_eq_reference m c (hpre c)

/-- All the claims of the certificate. -/
theorem claim : Cert.Claim := ⟨Cert.Kernel.Gen.facts, Cert.KernelIdeal.Gen.facts, Cert.ReferenceIdeal.Gen.facts, Cert.Pre_bags_nonempty_weights_finite.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre, (trivial : preserves_Kernel_KernelIdeal), algebraic_KernelIdeal_ReferenceIdeal⟩

end Cert.Proof

end
